-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_uniform_buckets [hPre_uniform_buckets : Cert.Pre_uniform_buckets.Facts] (m : (ℓ : Loc Cert.KernelIdeal.nD Cert.KernelIdeal.τ Cert.KernelIdeal.sig) → Buf (Elt Ideal) ℓ) : Prop :=
  ∀ c : Dev Cert.KernelIdeal.nD,
    (Cert.Pre_uniform_buckets.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_uniform_buckets.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 = (fun _ => 1#1)
    ∧ (Cert.Pre_uniform_buckets.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_uniform_buckets [hPre_uniform_buckets : Cert.Pre_uniform_buckets.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_uniform_buckets.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_uniform_buckets.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.1 = (fun _ => 1#1)
    ∧ (Cert.Pre_uniform_buckets.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_uniform_buckets [hKernelIdeal : Cert.KernelIdeal.Facts] [hPre_uniform_buckets : Cert.Pre_uniform_buckets.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_uniform_buckets m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_uniform_buckets [hReferenceIdeal : Cert.ReferenceIdeal.Facts] [hPre_uniform_buckets : Cert.Pre_uniform_buckets.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_uniform_buckets m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_uniform_buckets [hKernelIdeal : Cert.KernelIdeal.Facts] [hReferenceIdeal : Cert.ReferenceIdeal.Facts] [hPre_uniform_buckets : Cert.Pre_uniform_buckets.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_uniform_buckets m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_uniform_buckets : Cert.Pre_uniform_buckets.Facts),
    quiescent_Kernel (hKernel := hKernel)
    ∧ quiescent_KernelIdeal (hKernelIdeal := hKernelIdeal)
    ∧ quiescent_KernelIdeal_pre_uniform_buckets (hKernelIdeal := hKernelIdeal) (hPre_uniform_buckets := hPre_uniform_buckets)
    ∧ quiescent_ReferenceIdeal (hReferenceIdeal := hReferenceIdeal)
    ∧ quiescent_ReferenceIdeal_pre_uniform_buckets (hReferenceIdeal := hReferenceIdeal) (hPre_uniform_buckets := hPre_uniform_buckets)
    ∧ preserves_Kernel_KernelIdeal
    ∧ algebraic_KernelIdeal_ReferenceIdeal_pre_uniform_buckets (hKernelIdeal := hKernelIdeal) (hReferenceIdeal := hReferenceIdeal) (hPre_uniform_buckets := hPre_uniform_buckets)
-- ==== Pre_uniform_buckets.lean ====
abbrev S4096x200x26 : Shape := ⟨3, ![4096, 200, 26]⟩
abbrev S442 : Shape := ⟨1, ![442]⟩
abbrev S17 : Shape := ⟨1, ![17]⟩
abbrev S_ : Shape := ⟨0, ![]⟩
abbrev S26x17 : Shape := ⟨2, ![26, 17]⟩
abbrev S1x17 : Shape := ⟨2, ![1, 17]⟩

class Facts : Prop where
  bcast_S_S17 : S_.BroadcastsInDim S17 (![] : Fin 0 → Fin S17.rank)
  bcast_S_S4096x200x26 : S_.BroadcastsInDim S4096x200x26 (![] : Fin 0 → Fin S4096x200x26.rank)
  shapeCasts_S442_S26x17 : S442.ShapeCasts S26x17
  bcast_S17_S1x17_1 : S17.BroadcastsInDim S1x17 (![1] : Fin 1 → Fin S1x17.rank)
  bcast_S1x17_S26x17_0_1 : S1x17.BroadcastsInDim S26x17 (![0, 1] : Fin 2 → Fin S26x17.rank)

variable [Facts]

def fn {F : FTy → Type} [FloatOps F] (main_arg0 : FVec F S4096x200x26 .f32) (main_arg1 : FVec F S442 .f32) : IVec S4096x200x26 1 × IVec S4096x200x26 1 × IVec S26x17 1 :=
  let main_v0 : FVec F S17 .f32 := sitofp .f32 (iotaInDim S17 32 0)
  let main_cst : FVec F S_ .f32 := constant S_ .f32 0x41800000#32
  let main_v1 : FVec F S17 .f32 := broadcastInDim S17 ![] bcast_S_S17 main_cst
  let main_v2 : FVec F S17 .f32 := Host.divf main_v0 main_v1
  let main_cst_0 : FVec F S_ .f32 := constant S_ .f32 0x00000000#32
  let main_v3 : FVec F S4096x200x26 .f32 := broadcastInDim S4096x200x26 ![] bcast_S_S4096x200x26 main_cst_0
  let main_v4 : IVec S4096x200x26 1 := cmpf .oge main_arg0 main_v3
  let main_cst_1 : FVec F S_ .f32 := constant S_ .f32 0x3F800000#32
  let main_v5 : FVec F S4096x200x26 .f32 := broadcastInDim S4096x200x26 ![] bcast_S_S4096x200x26 main_cst_1
  let main_v6 : IVec S4096x200x26 1 := cmpf .olt main_arg0 main_v5
  let main_v7 : FVec F S26x17 .f32 := shapeCast S26x17 main_arg1 shapeCasts_S442_S26x17
  let main_v8 : FVec F S1x17 .f32 := broadcastInDim S1x17 ![1] bcast_S17_S1x17_1 main_v2
  let main_v9 : FVec F S26x17 .f32 := broadcastInDim S26x17 ![0, 1] bcast_S1x17_S26x17_0_1 main_v8
  let main_v10 : IVec S26x17 1 := cmpf .oeq main_v7 main_v9
  (main_v4, main_v6, main_v10)
-- ==== Kernel.lean ====
abbrev S4096x200x26 : Shape := ⟨3, ![4096, 200, 26]⟩
abbrev S442 : Shape := ⟨1, ![442]⟩
abbrev S26x200x4096 : Shape := ⟨3, ![26, 200, 4096]⟩
abbrev S2x1x8x4096 : Shape := ⟨4, ![2, 1, 8, 4096]⟩
abbrev S2 : Shape := ⟨1, ![2]⟩
abbrev S1x1x8x4096 : Shape := ⟨4, ![1, 1, 8, 4096]⟩
abbrev S1x8x4096 : Shape := ⟨3, ![1, 8, 4096]⟩
abbrev S1 : Shape := ⟨1, ![1]⟩
abbrev S_ : Shape := ⟨0, ![]⟩
abbrev S1x1x16 : Shape := ⟨3, ![1, 1, 16]⟩
abbrev S16 : Shape := ⟨1, ![16]⟩

abbrev nBuf : Table → Nat
  | .hbm => 5
  | .local .scVector .vmem => 2
  | _ => 0

abbrev bufTy : (tb : Table) → Fin (nBuf tb) → BufTy
  | .hbm, ⟨0, _⟩ => ⟨S4096x200x26, .f32⟩
  | .hbm, ⟨1, _⟩ => ⟨S442, .f32⟩
  | .hbm, ⟨2, _⟩ => ⟨S26x200x4096, .f32⟩
  | .hbm, ⟨3, _⟩ => ⟨S26x200x4096, .i32⟩
  | .hbm, ⟨4, _⟩ => ⟨S4096x200x26, .i32⟩
  | .local .scVector .vmem, ⟨0, _⟩ => ⟨S2x1x8x4096, .f32⟩
  | .local .scVector .vmem, ⟨1, _⟩ => ⟨S2x1x8x4096, .i32⟩
  | _, _ => ⟨S4096x200x26, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v0_scv : Ref sig .scVector := ⟨.hbm, 2, rfl⟩
abbrev main_v1_scv : Ref sig .scVector := ⟨.hbm, 3, rfl⟩
abbrev cc0_scoped0 : Ref sig .scVector := ⟨.vmem, 0, rfl⟩
abbrev cc0_scoped2 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let c1_i32_5 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c1_i32_0 : BitVec 32 := 1#32
  let c0_i32_1 : BitVec 32 := 0#32
  let v5 : BitVec 32 := Scalar.select v4 c1_i32_0 c0_i32_1
  let v11 : BitVec 32 := Scalar.muli c1_i32_5 v5
  let c25_i32 : BitVec 32 := 25#32
  let v12 : BitVec 32 := Scalar.muli v11 c25_i32
  let c1_i32_6 : BitVec 32 := 1#32
  let v13 : BitVec 32 := Scalar.muli v12 c1_i32_6
  let c0_i32_8_r0 : BitVec 32 := 0#32
  let v16_r0 : BitVec 1 := Scalar.cmpi .sgt v13 c0_i32_8_r0
  let v17_r0 : BitVec 32 := Scalar.extui v16_r0
  let c0_i32_9_r0 : BitVec 32 := 0#32
  let v18_r0 : BitVec 1 := Scalar.cmpi .ne v17_r0 c0_i32_9_r0
  v18_r0

def k0_cond2 (i : grid0.Coords) : BitVec 1 :=
  let true_52_r0 : BitVec 1 := 1#1
  let c1_i32_10_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c1_i32_0 : BitVec 32 := 1#32
  let c0_i32_1 : BitVec 32 := 0#32
  let v5 : BitVec 32 := Scalar.select v4 c1_i32_0 c0_i32_1
  let v19_r0 : BitVec 32 := Scalar.muli c1_i32_10_r0 v5
  let c25_i32_11_r0 : BitVec 32 := 25#32
  let v20_r0 : BitVec 32 := Scalar.muli v19_r0 c25_i32_11_r0
  let c1_i32_12_r0 : BitVec 32 := 1#32
  let v21_r0 : BitVec 32 := Scalar.muli v20_r0 c1_i32_12_r0
  let c0_i32_51_r0 : BitVec 32 := 0#32
  let v61_r0 : BitVec 1 := Scalar.cmpi .sgt v21_r0 c0_i32_51_r0
  let v62_r0 : BitVec 1 := Scalar.andi true_52_r0 v61_r0
  let true_53_r0 : BitVec 1 := 1#1
  let v63_r0 : BitVec 1 := Scalar.andi v62_r0 true_53_r0
  let v64_r0 : BitVec 32 := Scalar.extui v63_r0
  let c0_i32_55_r0 : BitVec 32 := 0#32
  let v65_r0 : BitVec 1 := Scalar.cmpi .ne v64_r0 c0_i32_55_r0
  v65_r0

def k0_off1 : Fin 4 → Nat :=
  let c0_i32_54_r0 : BitVec 32 := 0#32
  let c2_i32_r0 : BitVec 32 := 2#32
  let v141_r0 : BitVec 32 := Scalar.remui c0_i32_54_r0 c2_i32_r0
  let c0_i32_123_r0 : BitVec 32 := 0#32
  let c0_i32_124_r0 : BitVec 32 := 0#32
  let c0_i32_125_r0 : BitVec 32 := 0#32
  ![v141_r0.toNat, 0, 0, 0]
def k0_off2 (i : grid0.Coords) : Fin 3 → Nat :=
  let c1_i32_122_r0 : BitVec 32 := 1#32
  let c0_i32_15_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_2 : BitVec 32 := 26#32
  let v6 : BitVec 1 := Scalar.cmpi .slt v3 c26_i32_2
  let c26_i32 : BitVec 32 := 26#32
  let v4 : BitVec 1 := Scalar.cmpi .slt v3 c26_i32
  let c1_i32_0 : BitVec 32 := 1#32
  let c0_i32_1 : BitVec 32 := 0#32
  let v5 : BitVec 32 := Scalar.select v4 c1_i32_0 c0_i32_1
  let v7 : BitVec 32 := Scalar.muli v3 v5
  let c0_i32_3 : BitVec 32 := 0#32
  let v8 : BitVec 32 := Scalar.muli v3 c0_i32_3
  let c26_i32_4 : BitVec 32 := 26#32
  let v9 : BitVec 32 := Scalar.addi v8 c26_i32_4
  let v10 : BitVec 32 := Scalar.select v6 v7 v9
  let v24_r0 : BitVec 32 := Scalar.addi c0_i32_15_r0 v10
  let v142_r0 : BitVec 32 := Scalar.muli c1_i32_122_r0 v24_r0
  let c0_i32_126_r0 : BitVec 32 := 0#32
  let c0_i32_127_r0 : BitVec 32 := 0#32
  ![v142_r0.toNat, 0, 0]
def k0_off3 : Fin 1 → Nat :=
  let c0_i32_54_r0 : BitVec 32 := 0#32
  let c2_i32_r0 : BitVec 32 := 2#32
  let v141_r0 : BitVec 32 := Scalar.remui c0_i32_54_r0 c2_i32_r0
  ![v141_r0.toNat]
@[reducible] def k0_t1_loop (i : grid0.Coords) : Scf.Loop 32 :=
  let c0_i32_59_r0 : BitVec 32 := 0#32
  let c1_i32_5 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c1_i32_0 : BitVec 32 := 1#32
  let c0_i32_1 : BitVec 32 := 0#32
  let v5 : BitVec 32 := Scalar.select v4 c1_i32_0 c0_i32_1
  let v11 : BitVec 32 := Scalar.muli c1_i32_5 v5
  let c25_i32 : BitVec 32 := 25#32
  let v12 : BitVec 32 := Scalar.muli v11 c25_i32
  let c1_i32_6 : BitVec 32 := 1#32
  let v13 : BitVec 32 := Scalar.muli v12 c1_i32_6
  let v68_r0 : BitVec 32 := Scalar.subi v13 c0_i32_59_r0
  let c1_i32_66_r0 : BitVec 32 := 1#32
  let v70_r0 : BitVec 32 := Scalar.divsi v68_r0 c1_i32_66_r0
  let v71_r0 : BitVec 32 := Scalar.muli v70_r0 c1_i32_66_r0
  let v72_r0 : BitVec 32 := Scalar.addi c0_i32_59_r0 v71_r0
  let c1_i32_67_r0 : BitVec 32 := 1#32
  ⟨c0_i32_59_r0, v72_r0, c1_i32_67_r0⟩
def k0_off4 (arg5_r0 : BitVec 32) : Fin 4 → Nat :=
  let c2_i32_203_r0 : BitVec 32 := 2#32
  let v281_r0 : BitVec 32 := Scalar.remui arg5_r0 c2_i32_203_r0
  let c0_i32_206_r0 : BitVec 32 := 0#32
  let c0_i32_207_r0 : BitVec 32 := 0#32
  let c0_i32_208_r0 : BitVec 32 := 0#32
  ![v281_r0.toNat, 0, 0, 0]
def k0_cond3 (i : grid0.Coords) (k0_t1 : Fin (k0_t1_loop i).trips) (arg9_r0 : BitVec 32) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_2 : BitVec 32 := 26#32
  let v6 : BitVec 1 := Scalar.cmpi .slt v3 c26_i32_2
  let c26_i32 : BitVec 32 := 26#32
  let v4 : BitVec 1 := Scalar.cmpi .slt v3 c26_i32
  let c1_i32_0 : BitVec 32 := 1#32
  let c0_i32_1 : BitVec 32 := 0#32
  let v5 : BitVec 32 := Scalar.select v4 c1_i32_0 c0_i32_1
  let v7 : BitVec 32 := Scalar.muli v3 v5
  let c0_i32_3 : BitVec 32 := 0#32
  let v8 : BitVec 32 := Scalar.muli v3 c0_i32_3
  let c26_i32_4 : BitVec 32 := 26#32
  let v9 : BitVec 32 := Scalar.addi v8 c26_i32_4
  let v10 : BitVec 32 := Scalar.select v6 v7 v9
  let v147_r0 : BitVec 32 := Scalar.addi arg9_r0 v10
  let true_140_r0 : BitVec 1 := 1#1
  let c1_i32_142_r0 : BitVec 32 := 1#32
  let c0_i32_141_r0 : BitVec 32 := 0#32
  let v163_r0 : BitVec 32 := Scalar.select true_140_r0 c1_i32_142_r0 c0_i32_141_r0
  let c1_i32_143_r0 : BitVec 32 := 1#32
  let v164_r0 : BitVec 1 := Scalar.cmpi .eq v163_r0 c1_i32_143_r0
  let c1_i32_145_r0 : BitVec 32 := 1#32
  let v166_r0 : BitVec 32 := Scalar.addi arg10_r0 c1_i32_145_r0
  let v167_r0 : BitVec 32 := Scalar.select v164_r0 v166_r0 arg10_r0
  let c25_i32_146_r0 : BitVec 32 := 25#32
  let v168_r0 : BitVec 1 := Scalar.cmpi .eq v167_r0 c25_i32_146_r0
  let c1_i32_148_r0 : BitVec 32 := 1#32
  let v170_r0 : BitVec 32 := Scalar.addi arg9_r0 c1_i32_148_r0
  let v171_r0 : BitVec 32 := Scalar.select v168_r0 v170_r0 arg9_r0
  let v172_r0 : BitVec 1 := Scalar.cmpi .eq v171_r0 v5
  let c0_i32_149_r0 : BitVec 32 := 0#32
  let v173_r0 : BitVec 32 := Scalar.select v172_r0 c0_i32_149_r0 v171_r0
  let v174_r0 : BitVec 32 := Scalar.addi v173_r0 v10
  let v189_r0 : BitVec 1 := Scalar.cmpi .ne v147_r0 v174_r0
  let c0_i32_127_r0 : BitVec 32 := 0#32
  let v148_r0 : BitVec 32 := Scalar.addi arg10_r0 c0_i32_127_r0
  let c0_i32_147_r0 : BitVec 32 := 0#32
  let v169_r0 : BitVec 32 := Scalar.select v168_r0 c0_i32_147_r0 v167_r0
  let c0_i32_150_r0 : BitVec 32 := 0#32
  let v175_r0 : BitVec 32 := Scalar.addi v169_r0 c0_i32_150_r0
  let v190_r0 : BitVec 1 := Scalar.cmpi .ne v148_r0 v175_r0
  let v191_r0 : BitVec 1 := Scalar.ori v189_r0 v190_r0
  let c0_i32_59_r0 : BitVec 32 := 0#32
  let c1_i32_67_r0 : BitVec 32 := 1#32
  let arg4_r0 : BitVec 32 := Scf.iv c0_i32_59_r0 c1_i32_67_r0 k0_t1
  let c1_i32_122_r0 : BitVec 32 := 1#32
  let v141_r0 : BitVec 32 := Scalar.muli c1_i32_122_r0 v5
  let c25_i32_123_r0 : BitVec 32 := 25#32
  let v142_r0 : BitVec 32 := Scalar.muli v141_r0 c25_i32_123_r0
  let c1_i32_124_r0 : BitVec 32 := 1#32
  let v143_r0 : BitVec 32 := Scalar.muli v142_r0 c1_i32_124_r0
  let c2_i32_r0 : BitVec 32 := 2#32
  let v192_r0 : BitVec 32 := Scalar.subi v143_r0 c2_i32_r0
  let c1_i32_162_r0 : BitVec 32 := 1#32
  let v193_r0 : BitVec 32 := Scalar.addi v192_r0 c1_i32_162_r0
  let v194_r0 : BitVec 1 := Scalar.cmpi .sge arg4_r0 v193_r0
  let true_163_r0 : BitVec 1 := 1#1
  let v195_r0 : BitVec 1 := Scalar.xori v194_r0 true_163_r0
  let v196_r0 : BitVec 1 := Scalar.andi v191_r0 v195_r0
  let true_164_r0 : BitVec 1 := 1#1
  let v197_r0 : BitVec 1 := Scalar.andi v196_r0 true_164_r0
  let v198_r0 : BitVec 32 := Scalar.extui v197_r0
  let c0_i32_165_r0 : BitVec 32 := 0#32
  let v199_r0 : BitVec 1 := Scalar.cmpi .ne v198_r0 c0_i32_165_r0
  v199_r0

def k0_off5 (i : grid0.Coords) (arg9_r0 : BitVec 32) (arg10_r0 : BitVec 32) : Fin 3 → Nat :=
  let c1_i32_204_r0 : BitVec 32 := 1#32
  let true_140_r0 : BitVec 1 := 1#1
  let c1_i32_142_r0 : BitVec 32 := 1#32
  let c0_i32_141_r0 : BitVec 32 := 0#32
  let v163_r0 : BitVec 32 := Scalar.select true_140_r0 c1_i32_142_r0 c0_i32_141_r0
  let c1_i32_143_r0 : BitVec 32 := 1#32
  let v164_r0 : BitVec 1 := Scalar.cmpi .eq v163_r0 c1_i32_143_r0
  let c1_i32_145_r0 : BitVec 32 := 1#32
  let v166_r0 : BitVec 32 := Scalar.addi arg10_r0 c1_i32_145_r0
  let v167_r0 : BitVec 32 := Scalar.select v164_r0 v166_r0 arg10_r0
  let c25_i32_146_r0 : BitVec 32 := 25#32
  let v168_r0 : BitVec 1 := Scalar.cmpi .eq v167_r0 c25_i32_146_r0
  let c1_i32_148_r0 : BitVec 32 := 1#32
  let v170_r0 : BitVec 32 := Scalar.addi arg9_r0 c1_i32_148_r0
  let v171_r0 : BitVec 32 := Scalar.select v168_r0 v170_r0 arg9_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c1_i32_0 : BitVec 32 := 1#32
  let c0_i32_1 : BitVec 32 := 0#32
  let v5 : BitVec 32 := Scalar.select v4 c1_i32_0 c0_i32_1
  let v172_r0 : BitVec 1 := Scalar.cmpi .eq v171_r0 v5
  let c0_i32_149_r0 : BitVec 32 := 0#32
  let v173_r0 : BitVec 32 := Scalar.select v172_r0 c0_i32_149_r0 v171_r0
  let c26_i32_2 : BitVec 32 := 26#32
  let v6 : BitVec 1 := Scalar.cmpi .slt v3 c26_i32_2
  let v7 : BitVec 32 := Scalar.muli v3 v5
  let c0_i32_3 : BitVec 32 := 0#32
  let v8 : BitVec 32 := Scalar.muli v3 c0_i32_3
  let c26_i32_4 : BitVec 32 := 26#32
  let v9 : BitVec 32 := Scalar.addi v8 c26_i32_4
  let v10 : BitVec 32 := Scalar.select v6 v7 v9
  let v174_r0 : BitVec 32 := Scalar.addi v173_r0 v10
  let v282_r0 : BitVec 32 := Scalar.muli c1_i32_204_r0 v174_r0
  let c8_i32_205_r0 : BitVec 32 := 8#32
  let c0_i32_147_r0 : BitVec 32 := 0#32
  let v169_r0 : BitVec 32 := Scalar.select v168_r0 c0_i32_147_r0 v167_r0
  let c0_i32_150_r0 : BitVec 32 := 0#32
  let v175_r0 : BitVec 32 := Scalar.addi v169_r0 c0_i32_150_r0
  let v283_r0 : BitVec 32 := Scalar.muli c8_i32_205_r0 v175_r0
  let c0_i32_209_r0 : BitVec 32 := 0#32
  ![v282_r0.toNat, v283_r0.toNat, 0]
def k0_off6 (arg5_r0 : BitVec 32) : Fin 1 → Nat :=
  let c2_i32_203_r0 : BitVec 32 := 2#32
  let v281_r0 : BitVec 32 := Scalar.remui arg5_r0 c2_i32_203_r0
  ![v281_r0.toNat]
def k0_off7 (arg6_r0 : BitVec 32) : Fin 4 → Nat :=
  let c2_i32_205_r0 : BitVec 32 := 2#32
  let v283_r0 : BitVec 32 := Scalar.remui arg6_r0 c2_i32_205_r0
  let c0_i32_206_r0 : BitVec 32 := 0#32
  let c0_i32_207_r0 : BitVec 32 := 0#32
  let c0_i32_208_r0 : BitVec 32 := 0#32
  ![v283_r0.toNat, 0, 0, 0]
def k0_cond4 (i : grid0.Coords) (k0_t1 : Fin (k0_t1_loop i).trips) (arg9_r0 : BitVec 32) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_2 : BitVec 32 := 26#32
  let v6 : BitVec 1 := Scalar.cmpi .slt v3 c26_i32_2
  let c26_i32 : BitVec 32 := 26#32
  let v4 : BitVec 1 := Scalar.cmpi .slt v3 c26_i32
  let c1_i32_0 : BitVec 32 := 1#32
  let c0_i32_1 : BitVec 32 := 0#32
  let v5 : BitVec 32 := Scalar.select v4 c1_i32_0 c0_i32_1
  let v7 : BitVec 32 := Scalar.muli v3 v5
  let c0_i32_3 : BitVec 32 := 0#32
  let v8 : BitVec 32 := Scalar.muli v3 c0_i32_3
  let c26_i32_4 : BitVec 32 := 26#32
  let v9 : BitVec 32 := Scalar.addi v8 c26_i32_4
  let v10 : BitVec 32 := Scalar.select v6 v7 v9
  let v147_r0 : BitVec 32 := Scalar.addi arg9_r0 v10
  let true_128_r0 : BitVec 1 := 1#1
  let c_m1_i32_130_r0 : BitVec 32 := 4294967295#32
  let c0_i32_129_r0 : BitVec 32 := 0#32
  let v149_r0 : BitVec 32 := Scalar.select true_128_r0 c_m1_i32_130_r0 c0_i32_129_r0
  let c_m1_i32_131_r0 : BitVec 32 := 4294967295#32
  let v150_r0 : BitVec 1 := Scalar.cmpi .eq v149_r0 c_m1_i32_131_r0
  let c1_i32_133_r0 : BitVec 32 := 1#32
  let v152_r0 : BitVec 32 := Scalar.subi arg10_r0 c1_i32_133_r0
  let v153_r0 : BitVec 32 := Scalar.select v150_r0 v152_r0 arg10_r0
  let c_m1_i32_134_r0 : BitVec 32 := 4294967295#32
  let v154_r0 : BitVec 1 := Scalar.cmpi .eq v153_r0 c_m1_i32_134_r0
  let c1_i32_136_r0 : BitVec 32 := 1#32
  let v156_r0 : BitVec 32 := Scalar.subi arg9_r0 c1_i32_136_r0
  let v157_r0 : BitVec 32 := Scalar.select v154_r0 v156_r0 arg9_r0
  let c_m1_i32_137_r0 : BitVec 32 := 4294967295#32
  let v158_r0 : BitVec 1 := Scalar.cmpi .eq v157_r0 c_m1_i32_137_r0
  let c1_i32_138_r0 : BitVec 32 := 1#32
  let v159_r0 : BitVec 32 := Scalar.subi v5 c1_i32_138_r0
  let v160_r0 : BitVec 32 := Scalar.select v158_r0 v159_r0 v157_r0
  let v161_r0 : BitVec 32 := Scalar.addi v160_r0 v10
  let v211_r0 : BitVec 1 := Scalar.cmpi .ne v147_r0 v161_r0
  let c0_i32_127_r0 : BitVec 32 := 0#32
  let v148_r0 : BitVec 32 := Scalar.addi arg10_r0 c0_i32_127_r0
  let c24_i32_135_r0 : BitVec 32 := 24#32
  let v155_r0 : BitVec 32 := Scalar.select v154_r0 c24_i32_135_r0 v153_r0
  let c0_i32_139_r0 : BitVec 32 := 0#32
  let v162_r0 : BitVec 32 := Scalar.addi v155_r0 c0_i32_139_r0
  let v212_r0 : BitVec 1 := Scalar.cmpi .ne v148_r0 v162_r0
  let v213_r0 : BitVec 1 := Scalar.ori v211_r0 v212_r0
  let c0_i32_59_r0 : BitVec 32 := 0#32
  let c1_i32_67_r0 : BitVec 32 := 1#32
  let arg4_r0 : BitVec 32 := Scf.iv c0_i32_59_r0 c1_i32_67_r0 k0_t1
  let c0_i32_125_r0 : BitVec 32 := 0#32
  let v144_r0 : BitVec 1 := Scalar.cmpi .eq arg4_r0 c0_i32_125_r0
  let v214_r0 : BitVec 1 := Scalar.ori v213_r0 v144_r0
  let c0_i32_171_r0 : BitVec 32 := 0#32
  let v215_r0 : BitVec 1 := Scalar.cmpi .sge arg4_r0 c0_i32_171_r0
  let v216_r0 : BitVec 1 := Scalar.andi v214_r0 v215_r0
  let v217_r0 : BitVec 32 := Scalar.extui v216_r0
  let c0_i32_172_r0 : BitVec 32 := 0#32
  let v218_r0 : BitVec 1 := Scalar.cmpi .ne v217_r0 c0_i32_172_r0
  v218_r0

def k0_off8 (i : grid0.Coords) (arg9_r0 : BitVec 32) (arg10_r0 : BitVec 32) : Fin 3 → Nat :=
  let c1_i32_203_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_2 : BitVec 32 := 26#32
  let v6 : BitVec 1 := Scalar.cmpi .slt v3 c26_i32_2
  let c26_i32 : BitVec 32 := 26#32
  let v4 : BitVec 1 := Scalar.cmpi .slt v3 c26_i32
  let c1_i32_0 : BitVec 32 := 1#32
  let c0_i32_1 : BitVec 32 := 0#32
  let v5 : BitVec 32 := Scalar.select v4 c1_i32_0 c0_i32_1
  let v7 : BitVec 32 := Scalar.muli v3 v5
  let c0_i32_3 : BitVec 32 := 0#32
  let v8 : BitVec 32 := Scalar.muli v3 c0_i32_3
  let c26_i32_4 : BitVec 32 := 26#32
  let v9 : BitVec 32 := Scalar.addi v8 c26_i32_4
  let v10 : BitVec 32 := Scalar.select v6 v7 v9
  let v147_r0 : BitVec 32 := Scalar.addi arg9_r0 v10
  let v281_r0 : BitVec 32 := Scalar.muli c1_i32_203_r0 v147_r0
  let c8_i32_204_r0 : BitVec 32 := 8#32
  let c0_i32_127_r0 : BitVec 32 := 0#32
  let v148_r0 : BitVec 32 := Scalar.addi arg10_r0 c0_i32_127_r0
  let v282_r0 : BitVec 32 := Scalar.muli c8_i32_204_r0 v148_r0
  let c0_i32_209_r0 : BitVec 32 := 0#32
  ![v281_r0.toNat, v282_r0.toNat, 0]
def k0_off9 (arg6_r0 : BitVec 32) : Fin 1 → Nat :=
  let c2_i32_205_r0 : BitVec 32 := 2#32
  let v283_r0 : BitVec 32 := Scalar.remui arg6_r0 c2_i32_205_r0
  ![v283_r0.toNat]
@[reducible] def k0_t2_loop : Scf.Loop 32 :=
  let c0_i32_177_r0 : BitVec 32 := 0#32
  let c8_i32_r0 : BitVec 32 := 8#32
  let v229_r0 : BitVec 32 := Scalar.addi c0_i32_177_r0 c8_i32_r0
  let c1_i32_178_r0 : BitVec 32 := 1#32
  ⟨c0_i32_177_r0, v229_r0, c1_i32_178_r0⟩
@[reducible] def k0_t3_loop : Scf.Loop 32 :=
  let c0_i32_205_r0 : BitVec 32 := 0#32
  let c256_i32_r0 : BitVec 32 := 256#32
  let v283_r0 : BitVec 32 := Scalar.addi c0_i32_205_r0 c256_i32_r0
  let c1_i32_206_r0 : BitVec 32 := 1#32
  ⟨c0_i32_205_r0, v283_r0, c1_i32_206_r0⟩
def k0_off10 (arg6_r0 : BitVec 32) : Fin 4 → Nat :=
  let c2_i32_175_r0 : BitVec 32 := 2#32
  let v227_r0 : BitVec 32 := Scalar.remui arg6_r0 c2_i32_175_r0
  let c0_i32_211_r0 : BitVec 32 := 0#32
  let c0_i32_212_r0 : BitVec 32 := 0#32
  let c0_i32_213_r0 : BitVec 32 := 0#32
  ![v227_r0.toNat, 0, 0, 0]

def k0_chk2 (i : grid0.Coords) (k0_t1 : Fin (k0_t1_loop i).trips) (arg6_r0 : BitVec 32) : Prop :=
  (∀ (k0_h1 : k0_cond1 i = 1#1), ∀ a, (k0_off10 arg6_r0) a + S1x1x8x4096.size a ≤ S2x1x8x4096.size a)
theorem k0_off10_inb : ∀ (i : grid0.Coords) (k0_t1 : Fin (k0_t1_loop i).trips) (arg6_r0 : BitVec 32) (k0_hw2 : k0_chk2 i k0_t1 arg6_r0), ∀ (k0_h1 : k0_cond1 i = 1#1), ∀ a, (k0_off10 arg6_r0) a + S1x1x8x4096.size a ≤ S2x1x8x4096.size a := fun i k0_t1 arg6_r0 k0_hw2 k0_h1 => k0_hw2 k0_h1

def k0_off11 (k0_t2 : Fin k0_t2_loop.trips) (k0_t3 : Fin k0_t3_loop.trips) : Fin 3 → Nat :=
  let c0_i32_210_r0 : BitVec 32 := 0#32
  let v288_r0 : Index := Scalar.indexCast c0_i32_210_r0
  let c0_i32_204_r0 : BitVec 32 := 0#32
  let c0_i32_177_r0 : BitVec 32 := 0#32
  let c1_i32_178_r0 : BitVec 32 := 1#32
  let arg12_r0 : BitVec 32 := Scf.iv c0_i32_177_r0 c1_i32_178_r0 k0_t2
  let c1_i32_203_r0 : BitVec 32 := 1#32
  let v281_r0 : BitVec 32 := Scalar.muli arg12_r0 c1_i32_203_r0
  let v282_r0 : BitVec 32 := Scalar.addi c0_i32_204_r0 v281_r0
  let v289_r0 : Index := Scalar.indexCast v282_r0
  let c0_i32_209_r0 : BitVec 32 := 0#32
  let c0_i32_205_r0 : BitVec 32 := 0#32
  let c1_i32_206_r0 : BitVec 32 := 1#32
  let arg13_r0 : BitVec 32 := Scf.iv c0_i32_205_r0 c1_i32_206_r0 k0_t3
  let c16_i32_208_r0 : BitVec 32 := 16#32
  let v284_r0 : BitVec 32 := Scalar.muli arg13_r0 c16_i32_208_r0
  let v285_r0 : BitVec 32 := Scalar.addi c0_i32_209_r0 v284_r0
  let v290_r0 : Index := Scalar.indexCast v285_r0
  ![0, v289_r0.toNat, v290_r0.toNat]
def k0_off12 (arg7_r0 : BitVec 32) : Fin 4 → Nat :=
  let c2_i32_176_r0 : BitVec 32 := 2#32
  let v228_r0 : BitVec 32 := Scalar.remui arg7_r0 c2_i32_176_r0
  let c0_i32_216_r0 : BitVec 32 := 0#32
  let c0_i32_217_r0 : BitVec 32 := 0#32
  let c0_i32_218_r0 : BitVec 32 := 0#32
  ![v228_r0.toNat, 0, 0, 0]

def k0_chk3 (i : grid0.Coords) (k0_t1 : Fin (k0_t1_loop i).trips) (arg7_r0 : BitVec 32) : Prop :=
  (∀ (k0_h1 : k0_cond1 i = 1#1), ∀ a, (k0_off12 arg7_r0) a + S1x1x8x4096.size a ≤ S2x1x8x4096.size a)
theorem k0_off12_inb : ∀ (i : grid0.Coords) (k0_t1 : Fin (k0_t1_loop i).trips) (arg7_r0 : BitVec 32) (k0_hw3 : k0_chk3 i k0_t1 arg7_r0), ∀ (k0_h1 : k0_cond1 i = 1#1), ∀ a, (k0_off12 arg7_r0) a + S1x1x8x4096.size a ≤ S2x1x8x4096.size a := fun i k0_t1 arg7_r0 k0_hw3 k0_h1 => k0_hw3 k0_h1

def k0_off13 (k0_t2 : Fin k0_t2_loop.trips) (k0_t3 : Fin k0_t3_loop.trips) : Fin 3 → Nat :=
  let c0_i32_215_r0 : BitVec 32 := 0#32
  let v300_r0 : Index := Scalar.indexCast c0_i32_215_r0
  let c0_i32_204_r0 : BitVec 32 := 0#32
  let c0_i32_177_r0 : BitVec 32 := 0#32
  let c1_i32_178_r0 : BitVec 32 := 1#32
  let arg12_r0 : BitVec 32 := Scf.iv c0_i32_177_r0 c1_i32_178_r0 k0_t2
  let c1_i32_203_r0 : BitVec 32 := 1#32
  let v281_r0 : BitVec 32 := Scalar.muli arg12_r0 c1_i32_203_r0
  let v282_r0 : BitVec 32 := Scalar.addi c0_i32_204_r0 v281_r0
  let v301_r0 : Index := Scalar.indexCast v282_r0
  let c0_i32_209_r0 : BitVec 32 := 0#32
  let c0_i32_205_r0 : BitVec 32 := 0#32
  let c1_i32_206_r0 : BitVec 32 := 1#32
  let arg13_r0 : BitVec 32 := Scf.iv c0_i32_205_r0 c1_i32_206_r0 k0_t3
  let c16_i32_208_r0 : BitVec 32 := 16#32
  let v284_r0 : BitVec 32 := Scalar.muli arg13_r0 c16_i32_208_r0
  let v285_r0 : BitVec 32 := Scalar.addi c0_i32_209_r0 v284_r0
  let v302_r0 : Index := Scalar.indexCast v285_r0
  ![0, v301_r0.toNat, v302_r0.toNat]
def k0_off14 (arg7_r0 : BitVec 32) : Fin 4 → Nat :=
  let c2_i32_203_r0 : BitVec 32 := 2#32
  let v281_r0 : BitVec 32 := Scalar.remui arg7_r0 c2_i32_203_r0
  let c0_i32_206_r0 : BitVec 32 := 0#32
  let c0_i32_207_r0 : BitVec 32 := 0#32
  let c0_i32_208_r0 : BitVec 32 := 0#32
  ![v281_r0.toNat, 0, 0, 0]
def k0_cond7 (i : grid0.Coords) (k0_t1 : Fin (k0_t1_loop i).trips) (arg9_r0 : BitVec 32) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_2 : BitVec 32 := 26#32
  let v6 : BitVec 1 := Scalar.cmpi .slt v3 c26_i32_2
  let c26_i32 : BitVec 32 := 26#32
  let v4 : BitVec 1 := Scalar.cmpi .slt v3 c26_i32
  let c1_i32_0 : BitVec 32 := 1#32
  let c0_i32_1 : BitVec 32 := 0#32
  let v5 : BitVec 32 := Scalar.select v4 c1_i32_0 c0_i32_1
  let v7 : BitVec 32 := Scalar.muli v3 v5
  let c0_i32_3 : BitVec 32 := 0#32
  let v8 : BitVec 32 := Scalar.muli v3 c0_i32_3
  let c26_i32_4 : BitVec 32 := 26#32
  let v9 : BitVec 32 := Scalar.addi v8 c26_i32_4
  let v10 : BitVec 32 := Scalar.select v6 v7 v9
  let v147_r0 : BitVec 32 := Scalar.addi arg9_r0 v10
  let true_140_r0 : BitVec 1 := 1#1
  let c1_i32_142_r0 : BitVec 32 := 1#32
  let c0_i32_141_r0 : BitVec 32 := 0#32
  let v163_r0 : BitVec 32 := Scalar.select true_140_r0 c1_i32_142_r0 c0_i32_141_r0
  let c1_i32_143_r0 : BitVec 32 := 1#32
  let v164_r0 : BitVec 1 := Scalar.cmpi .eq v163_r0 c1_i32_143_r0
  let c1_i32_145_r0 : BitVec 32 := 1#32
  let v166_r0 : BitVec 32 := Scalar.addi arg10_r0 c1_i32_145_r0
  let v167_r0 : BitVec 32 := Scalar.select v164_r0 v166_r0 arg10_r0
  let c25_i32_146_r0 : BitVec 32 := 25#32
  let v168_r0 : BitVec 1 := Scalar.cmpi .eq v167_r0 c25_i32_146_r0
  let c1_i32_148_r0 : BitVec 32 := 1#32
  let v170_r0 : BitVec 32 := Scalar.addi arg9_r0 c1_i32_148_r0
  let v171_r0 : BitVec 32 := Scalar.select v168_r0 v170_r0 arg9_r0
  let v172_r0 : BitVec 1 := Scalar.cmpi .eq v171_r0 v5
  let c0_i32_149_r0 : BitVec 32 := 0#32
  let v173_r0 : BitVec 32 := Scalar.select v172_r0 c0_i32_149_r0 v171_r0
  let v174_r0 : BitVec 32 := Scalar.addi v173_r0 v10
  let v237_r0 : BitVec 1 := Scalar.cmpi .ne v147_r0 v174_r0
  let c0_i32_127_r0 : BitVec 32 := 0#32
  let v148_r0 : BitVec 32 := Scalar.addi arg10_r0 c0_i32_127_r0
  let c0_i32_147_r0 : BitVec 32 := 0#32
  let v169_r0 : BitVec 32 := Scalar.select v168_r0 c0_i32_147_r0 v167_r0
  let c0_i32_150_r0 : BitVec 32 := 0#32
  let v175_r0 : BitVec 32 := Scalar.addi v169_r0 c0_i32_150_r0
  let v238_r0 : BitVec 1 := Scalar.cmpi .ne v148_r0 v175_r0
  let v239_r0 : BitVec 1 := Scalar.ori v237_r0 v238_r0
  let c0_i32_59_r0 : BitVec 32 := 0#32
  let c1_i32_67_r0 : BitVec 32 := 1#32
  let arg4_r0 : BitVec 32 := Scf.iv c0_i32_59_r0 c1_i32_67_r0 k0_t1
  let c1_i32_122_r0 : BitVec 32 := 1#32
  let v141_r0 : BitVec 32 := Scalar.muli c1_i32_122_r0 v5
  let c25_i32_123_r0 : BitVec 32 := 25#32
  let v142_r0 : BitVec 32 := Scalar.muli v141_r0 c25_i32_123_r0
  let c1_i32_124_r0 : BitVec 32 := 1#32
  let v143_r0 : BitVec 32 := Scalar.muli v142_r0 c1_i32_124_r0
  let c1_i32_126_r0 : BitVec 32 := 1#32
  let v145_r0 : BitVec 32 := Scalar.subi v143_r0 c1_i32_126_r0
  let v146_r0 : BitVec 1 := Scalar.cmpi .eq arg4_r0 v145_r0
  let v240_r0 : BitVec 1 := Scalar.ori v239_r0 v146_r0
  let v241_r0 : BitVec 32 := Scalar.extui v240_r0
  let c0_i32_181_r0 : BitVec 32 := 0#32
  let v242_r0 : BitVec 1 := Scalar.cmpi .ne v241_r0 c0_i32_181_r0
  v242_r0

def k0_off15 (i : grid0.Coords) (arg9_r0 : BitVec 32) (arg10_r0 : BitVec 32) : Fin 3 → Nat :=
  let c1_i32_204_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_2 : BitVec 32 := 26#32
  let v6 : BitVec 1 := Scalar.cmpi .slt v3 c26_i32_2
  let c26_i32 : BitVec 32 := 26#32
  let v4 : BitVec 1 := Scalar.cmpi .slt v3 c26_i32
  let c1_i32_0 : BitVec 32 := 1#32
  let c0_i32_1 : BitVec 32 := 0#32
  let v5 : BitVec 32 := Scalar.select v4 c1_i32_0 c0_i32_1
  let v7 : BitVec 32 := Scalar.muli v3 v5
  let c0_i32_3 : BitVec 32 := 0#32
  let v8 : BitVec 32 := Scalar.muli v3 c0_i32_3
  let c26_i32_4 : BitVec 32 := 26#32
  let v9 : BitVec 32 := Scalar.addi v8 c26_i32_4
  let v10 : BitVec 32 := Scalar.select v6 v7 v9
  let v147_r0 : BitVec 32 := Scalar.addi arg9_r0 v10
  let v282_r0 : BitVec 32 := Scalar.muli c1_i32_204_r0 v147_r0
  let c8_i32_205_r0 : BitVec 32 := 8#32
  let c0_i32_127_r0 : BitVec 32 := 0#32
  let v148_r0 : BitVec 32 := Scalar.addi arg10_r0 c0_i32_127_r0
  let v283_r0 : BitVec 32 := Scalar.muli c8_i32_205_r0 v148_r0
  let c0_i32_209_r0 : BitVec 32 := 0#32
  ![v282_r0.toNat, v283_r0.toNat, 0]
def k0_off16 (arg7_r0 : BitVec 32) : Fin 1 → Nat :=
  let c2_i32_203_r0 : BitVec 32 := 2#32
  let v281_r0 : BitVec 32 := Scalar.remui arg7_r0 c2_i32_203_r0
  ![v281_r0.toNat]
def k0_off17 (arg8_r0 : BitVec 32) : Fin 4 → Nat :=
  let c2_i32_203_r0 : BitVec 32 := 2#32
  let v281_r0 : BitVec 32 := Scalar.remui arg8_r0 c2_i32_203_r0
  let c0_i32_206_r0 : BitVec 32 := 0#32
  let c0_i32_207_r0 : BitVec 32 := 0#32
  let c0_i32_208_r0 : BitVec 32 := 0#32
  ![v281_r0.toNat, 0, 0, 0]
def k0_cond9 (i : grid0.Coords) (k0_t1 : Fin (k0_t1_loop i).trips) (arg9_r0 : BitVec 32) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_2 : BitVec 32 := 26#32
  let v6 : BitVec 1 := Scalar.cmpi .slt v3 c26_i32_2
  let c26_i32 : BitVec 32 := 26#32
  let v4 : BitVec 1 := Scalar.cmpi .slt v3 c26_i32
  let c1_i32_0 : BitVec 32 := 1#32
  let c0_i32_1 : BitVec 32 := 0#32
  let v5 : BitVec 32 := Scalar.select v4 c1_i32_0 c0_i32_1
  let v7 : BitVec 32 := Scalar.muli v3 v5
  let c0_i32_3 : BitVec 32 := 0#32
  let v8 : BitVec 32 := Scalar.muli v3 c0_i32_3
  let c26_i32_4 : BitVec 32 := 26#32
  let v9 : BitVec 32 := Scalar.addi v8 c26_i32_4
  let v10 : BitVec 32 := Scalar.select v6 v7 v9
  let v147_r0 : BitVec 32 := Scalar.addi arg9_r0 v10
  let true_128_r0 : BitVec 1 := 1#1
  let c_m1_i32_130_r0 : BitVec 32 := 4294967295#32
  let c0_i32_129_r0 : BitVec 32 := 0#32
  let v149_r0 : BitVec 32 := Scalar.select true_128_r0 c_m1_i32_130_r0 c0_i32_129_r0
  let c_m1_i32_131_r0 : BitVec 32 := 4294967295#32
  let v150_r0 : BitVec 1 := Scalar.cmpi .eq v149_r0 c_m1_i32_131_r0
  let c1_i32_133_r0 : BitVec 32 := 1#32
  let v152_r0 : BitVec 32 := Scalar.subi arg10_r0 c1_i32_133_r0
  let v153_r0 : BitVec 32 := Scalar.select v150_r0 v152_r0 arg10_r0
  let c_m1_i32_134_r0 : BitVec 32 := 4294967295#32
  let v154_r0 : BitVec 1 := Scalar.cmpi .eq v153_r0 c_m1_i32_134_r0
  let c1_i32_136_r0 : BitVec 32 := 1#32
  let v156_r0 : BitVec 32 := Scalar.subi arg9_r0 c1_i32_136_r0
  let v157_r0 : BitVec 32 := Scalar.select v154_r0 v156_r0 arg9_r0
  let c_m1_i32_137_r0 : BitVec 32 := 4294967295#32
  let v158_r0 : BitVec 1 := Scalar.cmpi .eq v157_r0 c_m1_i32_137_r0
  let c1_i32_138_r0 : BitVec 32 := 1#32
  let v159_r0 : BitVec 32 := Scalar.subi v5 c1_i32_138_r0
  let v160_r0 : BitVec 32 := Scalar.select v158_r0 v159_r0 v157_r0
  let v161_r0 : BitVec 32 := Scalar.addi v160_r0 v10
  let v254_r0 : BitVec 1 := Scalar.cmpi .ne v147_r0 v161_r0
  let c0_i32_127_r0 : BitVec 32 := 0#32
  let v148_r0 : BitVec 32 := Scalar.addi arg10_r0 c0_i32_127_r0
  let c24_i32_135_r0 : BitVec 32 := 24#32
  let v155_r0 : BitVec 32 := Scalar.select v154_r0 c24_i32_135_r0 v153_r0
  let c0_i32_139_r0 : BitVec 32 := 0#32
  let v162_r0 : BitVec 32 := Scalar.addi v155_r0 c0_i32_139_r0
  let v255_r0 : BitVec 1 := Scalar.cmpi .ne v148_r0 v162_r0
  let v256_r0 : BitVec 1 := Scalar.ori v254_r0 v255_r0
  let c0_i32_59_r0 : BitVec 32 := 0#32
  let c1_i32_67_r0 : BitVec 32 := 1#32
  let arg4_r0 : BitVec 32 := Scf.iv c0_i32_59_r0 c1_i32_67_r0 k0_t1
  let c0_i32_125_r0 : BitVec 32 := 0#32
  let v144_r0 : BitVec 1 := Scalar.cmpi .eq arg4_r0 c0_i32_125_r0
  let true_187_r0 : BitVec 1 := 1#1
  let v257_r0 : BitVec 1 := Scalar.xori v144_r0 true_187_r0
  let v258_r0 : BitVec 1 := Scalar.andi v256_r0 v257_r0
  let v259_r0 : BitVec 32 := Scalar.extui v258_r0
  let c0_i32_188_r0 : BitVec 32 := 0#32
  let v260_r0 : BitVec 1 := Scalar.cmpi .ne v259_r0 c0_i32_188_r0
  v260_r0

def k0_off18 (i : grid0.Coords) (arg9_r0 : BitVec 32) (arg10_r0 : BitVec 32) : Fin 3 → Nat :=
  let c1_i32_204_r0 : BitVec 32 := 1#32
  let true_128_r0 : BitVec 1 := 1#1
  let c_m1_i32_130_r0 : BitVec 32 := 4294967295#32
  let c0_i32_129_r0 : BitVec 32 := 0#32
  let v149_r0 : BitVec 32 := Scalar.select true_128_r0 c_m1_i32_130_r0 c0_i32_129_r0
  let c_m1_i32_131_r0 : BitVec 32 := 4294967295#32
  let v150_r0 : BitVec 1 := Scalar.cmpi .eq v149_r0 c_m1_i32_131_r0
  let c1_i32_133_r0 : BitVec 32 := 1#32
  let v152_r0 : BitVec 32 := Scalar.subi arg10_r0 c1_i32_133_r0
  let v153_r0 : BitVec 32 := Scalar.select v150_r0 v152_r0 arg10_r0
  let c_m1_i32_134_r0 : BitVec 32 := 4294967295#32
  let v154_r0 : BitVec 1 := Scalar.cmpi .eq v153_r0 c_m1_i32_134_r0
  let c1_i32_136_r0 : BitVec 32 := 1#32
  let v156_r0 : BitVec 32 := Scalar.subi arg9_r0 c1_i32_136_r0
  let v157_r0 : BitVec 32 := Scalar.select v154_r0 v156_r0 arg9_r0
  let c_m1_i32_137_r0 : BitVec 32 := 4294967295#32
  let v158_r0 : BitVec 1 := Scalar.cmpi .eq v157_r0 c_m1_i32_137_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c1_i32_0 : BitVec 32 := 1#32
  let c0_i32_1 : BitVec 32 := 0#32
  let v5 : BitVec 32 := Scalar.select v4 c1_i32_0 c0_i32_1
  let c1_i32_138_r0 : BitVec 32 := 1#32
  let v159_r0 : BitVec 32 := Scalar.subi v5 c1_i32_138_r0
  let v160_r0 : BitVec 32 := Scalar.select v158_r0 v159_r0 v157_r0
  let c26_i32_2 : BitVec 32 := 26#32
  let v6 : BitVec 1 := Scalar.cmpi .slt v3 c26_i32_2
  let v7 : BitVec 32 := Scalar.muli v3 v5
  let c0_i32_3 : BitVec 32 := 0#32
  let v8 : BitVec 32 := Scalar.muli v3 c0_i32_3
  let c26_i32_4 : BitVec 32 := 26#32
  let v9 : BitVec 32 := Scalar.addi v8 c26_i32_4
  let v10 : BitVec 32 := Scalar.select v6 v7 v9
  let v161_r0 : BitVec 32 := Scalar.addi v160_r0 v10
  let v282_r0 : BitVec 32 := Scalar.muli c1_i32_204_r0 v161_r0
  let c8_i32_205_r0 : BitVec 32 := 8#32
  let c24_i32_135_r0 : BitVec 32 := 24#32
  let v155_r0 : BitVec 32 := Scalar.select v154_r0 c24_i32_135_r0 v153_r0
  let c0_i32_139_r0 : BitVec 32 := 0#32
  let v162_r0 : BitVec 32 := Scalar.addi v155_r0 c0_i32_139_r0
  let v283_r0 : BitVec 32 := Scalar.muli c8_i32_205_r0 v162_r0
  let c0_i32_209_r0 : BitVec 32 := 0#32
  ![v282_r0.toNat, v283_r0.toNat, 0]
def k0_off19 (arg8_r0 : BitVec 32) : Fin 1 → Nat :=
  let c2_i32_203_r0 : BitVec 32 := 2#32
  let v281_r0 : BitVec 32 := Scalar.remui arg8_r0 c2_i32_203_r0
  ![v281_r0.toNat]

def k0_chk1 (i : grid0.Coords) (k0_t1 : Fin (k0_t1_loop i).trips) (arg5_r0 : BitVec 32) (arg6_r0 : BitVec 32) (arg7_r0 : BitVec 32) (arg8_r0 : BitVec 32) (arg9_r0 : BitVec 32) (arg10_r0 : BitVec 32) : Prop :=
  (∀ (k0_h1 : k0_cond1 i = 1#1), ∀ (k0_h3 : k0_cond3 i k0_t1 arg9_r0 arg10_r0 = 1#1), ∀ a, (k0_off4 arg5_r0) a + S1x1x8x4096.size a ≤ S2x1x8x4096.size a) ∧
  (∀ (k0_h1 : k0_cond1 i = 1#1), ∀ (k0_h3 : k0_cond3 i k0_t1 arg9_r0 arg10_r0 = 1#1), ∀ a, (k0_off5 i arg9_r0 arg10_r0) a + S1x8x4096.size a ≤ S26x200x4096.size a) ∧
  (∀ (k0_h1 : k0_cond1 i = 1#1), ∀ (k0_h3 : k0_cond3 i k0_t1 arg9_r0 arg10_r0 = 1#1), ∀ a, (k0_off6 arg5_r0) a + S1.size a ≤ S2.size a) ∧
  (∀ (k0_h1 : k0_cond1 i = 1#1), ∀ (k0_h4 : k0_cond4 i k0_t1 arg9_r0 arg10_r0 = 1#1), ∀ a, (k0_off7 arg6_r0) a + S1x1x8x4096.size a ≤ S2x1x8x4096.size a) ∧
  (∀ (k0_h1 : k0_cond1 i = 1#1), ∀ (k0_h4 : k0_cond4 i k0_t1 arg9_r0 arg10_r0 = 1#1), ∀ a, (k0_off8 i arg9_r0 arg10_r0) a + S1x8x4096.size a ≤ S26x200x4096.size a) ∧
  (∀ (k0_h1 : k0_cond1 i = 1#1), ∀ (k0_h4 : k0_cond4 i k0_t1 arg9_r0 arg10_r0 = 1#1), ∀ a, (k0_off9 arg6_r0) a + S1.size a ≤ S2.size a) ∧
  (∀ (k0_h1 : k0_cond1 i = 1#1), ∀ (k0_h7 : k0_cond7 i k0_t1 arg9_r0 arg10_r0 = 1#1), ∀ a, (k0_off14 arg7_r0) a + S1x1x8x4096.size a ≤ S2x1x8x4096.size a) ∧
  (∀ (k0_h1 : k0_cond1 i = 1#1), ∀ (k0_h7 : k0_cond7 i k0_t1 arg9_r0 arg10_r0 = 1#1), ∀ a, (k0_off15 i arg9_r0 arg10_r0) a + S1x8x4096.size a ≤ S26x200x4096.size a) ∧
  (∀ (k0_h1 : k0_cond1 i = 1#1), ∀ (k0_h7 : k0_cond7 i k0_t1 arg9_r0 arg10_r0 = 1#1), ∀ a, (k0_off16 arg7_r0) a + S1.size a ≤ S2.size a) ∧
  (∀ (k0_h1 : k0_cond1 i = 1#1), ∀ (k0_h9 : k0_cond9 i k0_t1 arg9_r0 arg10_r0 = 1#1), ∀ a, (k0_off17 arg8_r0) a + S1x1x8x4096.size a ≤ S2x1x8x4096.size a) ∧
  (∀ (k0_h1 : k0_cond1 i = 1#1), ∀ (k0_h9 : k0_cond9 i k0_t1 arg9_r0 arg10_r0 = 1#1), ∀ a, (k0_off18 i arg9_r0 arg10_r0) a + S1x8x4096.size a ≤ S26x200x4096.size a) ∧
  (∀ (k0_h1 : k0_cond1 i = 1#1), ∀ (k0_h9 : k0_cond9 i k0_t1 arg9_r0 arg10_r0 = 1#1), ∀ a, (k0_off19 arg8_r0) a + S1.size a ≤ S2.size a)
theorem k0_off4_inb : ∀ (i : grid0.Coords) (k0_t1 : Fin (k0_t1_loop i).trips) (arg5_r0 : BitVec 32) (arg6_r0 : BitVec 32) (arg7_r0 : BitVec 32) (arg8_r0 : BitVec 32) (arg9_r0 : BitVec 32) (arg10_r0 : BitVec 32) (k0_hw1 : k0_chk1 i k0_t1 arg5_r0 arg6_r0 arg7_r0 arg8_r0 arg9_r0 arg10_r0), ∀ (k0_h1 : k0_cond1 i = 1#1), ∀ (k0_h3 : k0_cond3 i k0_t1 arg9_r0 arg10_r0 = 1#1), ∀ a, (k0_off4 arg5_r0) a + S1x1x8x4096.size a ≤ S2x1x8x4096.size a := fun i k0_t1 arg5_r0 arg6_r0 arg7_r0 arg8_r0 arg9_r0 arg10_r0 k0_hw1 k0_h1 k0_h3 => k0_hw1.1 k0_h1 k0_h3
theorem k0_off5_inb : ∀ (i : grid0.Coords) (k0_t1 : Fin (k0_t1_loop i).trips) (arg5_r0 : BitVec 32) (arg6_r0 : BitVec 32) (arg7_r0 : BitVec 32) (arg8_r0 : BitVec 32) (arg9_r0 : BitVec 32) (arg10_r0 : BitVec 32) (k0_hw1 : k0_chk1 i k0_t1 arg5_r0 arg6_r0 arg7_r0 arg8_r0 arg9_r0 arg10_r0), ∀ (k0_h1 : k0_cond1 i = 1#1), ∀ (k0_h3 : k0_cond3 i k0_t1 arg9_r0 arg10_r0 = 1#1), ∀ a, (k0_off5 i arg9_r0 arg10_r0) a + S1x8x4096.size a ≤ S26x200x4096.size a := fun i k0_t1 arg5_r0 arg6_r0 arg7_r0 arg8_r0 arg9_r0 arg10_r0 k0_hw1 k0_h1 k0_h3 => k0_hw1.2.1 k0_h1 k0_h3
theorem k0_off6_inb : ∀ (i : grid0.Coords) (k0_t1 : Fin (k0_t1_loop i).trips) (arg5_r0 : BitVec 32) (arg6_r0 : BitVec 32) (arg7_r0 : BitVec 32) (arg8_r0 : BitVec 32) (arg9_r0 : BitVec 32) (arg10_r0 : BitVec 32) (k0_hw1 : k0_chk1 i k0_t1 arg5_r0 arg6_r0 arg7_r0 arg8_r0 arg9_r0 arg10_r0), ∀ (k0_h1 : k0_cond1 i = 1#1), ∀ (k0_h3 : k0_cond3 i k0_t1 arg9_r0 arg10_r0 = 1#1), ∀ a, (k0_off6 arg5_r0) a + S1.size a ≤ S2.size a := fun i k0_t1 arg5_r0 arg6_r0 arg7_r0 arg8_r0 arg9_r0 arg10_r0 k0_hw1 k0_h1 k0_h3 => k0_hw1.2.2.1 k0_h1 k0_h3
theorem k0_off7_inb : ∀ (i : grid0.Coords) (k0_t1 : Fin (k0_t1_loop i).trips) (arg5_r0 : BitVec 32) (arg6_r0 : BitVec 32) (arg7_r0 : BitVec 32) (arg8_r0 : BitVec 32) (arg9_r0 : BitVec 32) (arg10_r0 : BitVec 32) (k0_hw1 : k0_chk1 i k0_t1 arg5_r0 arg6_r0 arg7_r0 arg8_r0 arg9_r0 arg10_r0), ∀ (k0_h1 : k0_cond1 i = 1#1), ∀ (k0_h4 : k0_cond4 i k0_t1 arg9_r0 arg10_r0 = 1#1), ∀ a, (k0_off7 arg6_r0) a + S1x1x8x4096.size a ≤ S2x1x8x4096.size a := fun i k0_t1 arg5_r0 arg6_r0 arg7_r0 arg8_r0 arg9_r0 arg10_r0 k0_hw1 k0_h1 k0_h4 => k0_hw1.2.2.2.1 k0_h1 k0_h4
theorem k0_off8_inb : ∀ (i : grid0.Coords) (k0_t1 : Fin (k0_t1_loop i).trips) (arg5_r0 : BitVec 32) (arg6_r0 : BitVec 32) (arg7_r0 : BitVec 32) (arg8_r0 : BitVec 32) (arg9_r0 : BitVec 32) (arg10_r0 : BitVec 32) (k0_hw1 : k0_chk1 i k0_t1 arg5_r0 arg6_r0 arg7_r0 arg8_r0 arg9_r0 arg10_r0), ∀ (k0_h1 : k0_cond1 i = 1#1), ∀ (k0_h4 : k0_cond4 i k0_t1 arg9_r0 arg10_r0 = 1#1), ∀ a, (k0_off8 i arg9_r0 arg10_r0) a + S1x8x4096.size a ≤ S26x200x4096.size a := fun i k0_t1 arg5_r0 arg6_r0 arg7_r0 arg8_r0 arg9_r0 arg10_r0 k0_hw1 k0_h1 k0_h4 => k0_hw1.2.2.2.2.1 k0_h1 k0_h4
theorem k0_off9_inb : ∀ (i : grid0.Coords) (k0_t1 : Fin (k0_t1_loop i).trips) (arg5_r0 : BitVec 32) (arg6_r0 : BitVec 32) (arg7_r0 : BitVec 32) (arg8_r0 : BitVec 32) (arg9_r0 : BitVec 32) (arg10_r0 : BitVec 32) (k0_hw1 : k0_chk1 i k0_t1 arg5_r0 arg6_r0 arg7_r0 arg8_r0 arg9_r0 arg10_r0), ∀ (k0_h1 : k0_cond1 i = 1#1), ∀ (k0_h4 : k0_cond4 i k0_t1 arg9_r0 arg10_r0 = 1#1), ∀ a, (k0_off9 arg6_r0) a + S1.size a ≤ S2.size a := fun i k0_t1 arg5_r0 arg6_r0 arg7_r0 arg8_r0 arg9_r0 arg10_r0 k0_hw1 k0_h1 k0_h4 => k0_hw1.2.2.2.2.2.1 k0_h1 k0_h4
theorem k0_off14_inb : ∀ (i : grid0.Coords) (k0_t1 : Fin (k0_t1_loop i).trips) (arg5_r0 : BitVec 32) (arg6_r0 : BitVec 32) (arg7_r0 : BitVec 32) (arg8_r0 : BitVec 32) (arg9_r0 : BitVec 32) (arg10_r0 : BitVec 32) (k0_hw1 : k0_chk1 i k0_t1 arg5_r0 arg6_r0 arg7_r0 arg8_r0 arg9_r0 arg10_r0), ∀ (k0_h1 : k0_cond1 i = 1#1), ∀ (k0_h7 : k0_cond7 i k0_t1 arg9_r0 arg10_r0 = 1#1), ∀ a, (k0_off14 arg7_r0) a + S1x1x8x4096.size a ≤ S2x1x8x4096.size a := fun i k0_t1 arg5_r0 arg6_r0 arg7_r0 arg8_r0 arg9_r0 arg10_r0 k0_hw1 k0_h1 k0_h7 => k0_hw1.2.2.2.2.2.2.1 k0_h1 k0_h7
theorem k0_off15_inb : ∀ (i : grid0.Coords) (k0_t1 : Fin (k0_t1_loop i).trips) (arg5_r0 : BitVec 32) (arg6_r0 : BitVec 32) (arg7_r0 : BitVec 32) (arg8_r0 : BitVec 32) (arg9_r0 : BitVec 32) (arg10_r0 : BitVec 32) (k0_hw1 : k0_chk1 i k0_t1 arg5_r0 arg6_r0 arg7_r0 arg8_r0 arg9_r0 arg10_r0), ∀ (k0_h1 : k0_cond1 i = 1#1), ∀ (k0_h7 : k0_cond7 i k0_t1 arg9_r0 arg10_r0 = 1#1), ∀ a, (k0_off15 i arg9_r0 arg10_r0) a + S1x8x4096.size a ≤ S26x200x4096.size a := fun i k0_t1 arg5_r0 arg6_r0 arg7_r0 arg8_r0 arg9_r0 arg10_r0 k0_hw1 k0_h1 k0_h7 => k0_hw1.2.2.2.2.2.2.2.1 k0_h1 k0_h7
theorem k0_off16_inb : ∀ (i : grid0.Coords) (k0_t1 : Fin (k0_t1_loop i).trips) (arg5_r0 : BitVec 32) (arg6_r0 : BitVec 32) (arg7_r0 : BitVec 32) (arg8_r0 : BitVec 32) (arg9_r0 : BitVec 32) (arg10_r0 : BitVec 32) (k0_hw1 : k0_chk1 i k0_t1 arg5_r0 arg6_r0 arg7_r0 arg8_r0 arg9_r0 arg10_r0), ∀ (k0_h1 : k0_cond1 i = 1#1), ∀ (k0_h7 : k0_cond7 i k0_t1 arg9_r0 arg10_r0 = 1#1), ∀ a, (k0_off16 arg7_r0) a + S1.size a ≤ S2.size a := fun i k0_t1 arg5_r0 arg6_r0 arg7_r0 arg8_r0 arg9_r0 arg10_r0 k0_hw1 k0_h1 k0_h7 => k0_hw1.2.2.2.2.2.2.2.2.1 k0_h1 k0_h7
theorem k0_off17_inb : ∀ (i : grid0.Coords) (k0_t1 : Fin (k0_t1_loop i).trips) (arg5_r0 : BitVec 32) (arg6_r0 : BitVec 32) (arg7_r0 : BitVec 32) (arg8_r0 : BitVec 32) (arg9_r0 : BitVec 32) (arg10_r0 : BitVec 32) (k0_hw1 : k0_chk1 i k0_t1 arg5_r0 arg6_r0 arg7_r0 arg8_r0 arg9_r0 arg10_r0), ∀ (k0_h1 : k0_cond1 i = 1#1), ∀ (k0_h9 : k0_cond9 i k0_t1 arg9_r0 arg10_r0 = 1#1), ∀ a, (k0_off17 arg8_r0) a + S1x1x8x4096.size a ≤ S2x1x8x4096.size a := fun i k0_t1 arg5_r0 arg6_r0 arg7_r0 arg8_r0 arg9_r0 arg10_r0 k0_hw1 k0_h1 k0_h9 => k0_hw1.2.2.2.2.2.2.2.2.2.1 k0_h1 k0_h9
theorem k0_off18_inb : ∀ (i : grid0.Coords) (k0_t1 : Fin (k0_t1_loop i).trips) (arg5_r0 : BitVec 32) (arg6_r0 : BitVec 32) (arg7_r0 : BitVec 32) (arg8_r0 : BitVec 32) (arg9_r0 : BitVec 32) (arg10_r0 : BitVec 32) (k0_hw1 : k0_chk1 i k0_t1 arg5_r0 arg6_r0 arg7_r0 arg8_r0 arg9_r0 arg10_r0), ∀ (k0_h1 : k0_cond1 i = 1#1), ∀ (k0_h9 : k0_cond9 i k0_t1 arg9_r0 arg10_r0 = 1#1), ∀ a, (k0_off18 i arg9_r0 arg10_r0) a + S1x8x4096.size a ≤ S26x200x4096.size a := fun i k0_t1 arg5_r0 arg6_r0 arg7_r0 arg8_r0 arg9_r0 arg10_r0 k0_hw1 k0_h1 k0_h9 => k0_hw1.2.2.2.2.2.2.2.2.2.2.1 k0_h1 k0_h9
theorem k0_off19_inb : ∀ (i : grid0.Coords) (k0_t1 : Fin (k0_t1_loop i).trips) (arg5_r0 : BitVec 32) (arg6_r0 : BitVec 32) (arg7_r0 : BitVec 32) (arg8_r0 : BitVec 32) (arg9_r0 : BitVec 32) (arg10_r0 : BitVec 32) (k0_hw1 : k0_chk1 i k0_t1 arg5_r0 arg6_r0 arg7_r0 arg8_r0 arg9_r0 arg10_r0), ∀ (k0_h1 : k0_cond1 i = 1#1), ∀ (k0_h9 : k0_cond9 i k0_t1 arg9_r0 arg10_r0 = 1#1), ∀ a, (k0_off19 arg8_r0) a + S1.size a ≤ S2.size a := fun i k0_t1 arg5_r0 arg6_r0 arg7_r0 arg8_r0 arg9_r0 arg10_r0 k0_hw1 k0_h1 k0_h9 => k0_hw1.2.2.2.2.2.2.2.2.2.2.2 k0_h1 k0_h9

@[reducible] def k0_t4_loop (i : grid0.Coords) : Scf.Loop 32 :=
  let c0_i32_59_r0 : BitVec 32 := 0#32
  let c1_i32_5 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c1_i32_0 : BitVec 32 := 1#32
  let c0_i32_1 : BitVec 32 := 0#32
  let v5 : BitVec 32 := Scalar.select v4 c1_i32_0 c0_i32_1
  let v11 : BitVec 32 := Scalar.muli c1_i32_5 v5
  let c25_i32 : BitVec 32 := 25#32
  let v12 : BitVec 32 := Scalar.muli v11 c25_i32
  let c1_i32_6 : BitVec 32 := 1#32
  let v13 : BitVec 32 := Scalar.muli v12 c1_i32_6
  let v68_r0 : BitVec 32 := Scalar.subi v13 c0_i32_59_r0
  let c1_i32_66_r0 : BitVec 32 := 1#32
  let v70_r0 : BitVec 32 := Scalar.divsi v68_r0 c1_i32_66_r0
  let v71_r0 : BitVec 32 := Scalar.muli v70_r0 c1_i32_66_r0
  let v72_r0 : BitVec 32 := Scalar.addi c0_i32_59_r0 v71_r0
  let v69_r0 : BitVec 32 := Scalar.addi c0_i32_59_r0 v68_r0
  let c1_i32_68_r0 : BitVec 32 := 1#32
  ⟨v72_r0, v69_r0, c1_i32_68_r0⟩
def k0_off20 (arg5_r0 : BitVec 32) : Fin 4 → Nat :=
  let c2_i32_203_r0 : BitVec 32 := 2#32
  let v281_r0 : BitVec 32 := Scalar.remui arg5_r0 c2_i32_203_r0
  let c0_i32_206_r0 : BitVec 32 := 0#32
  let c0_i32_207_r0 : BitVec 32 := 0#32
  let c0_i32_208_r0 : BitVec 32 := 0#32
  ![v281_r0.toNat, 0, 0, 0]
def k0_cond10 (i : grid0.Coords) (k0_t4 : Fin (k0_t4_loop i).trips) (arg9_r0 : BitVec 32) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_2 : BitVec 32 := 26#32
  let v6 : BitVec 1 := Scalar.cmpi .slt v3 c26_i32_2
  let c26_i32 : BitVec 32 := 26#32
  let v4 : BitVec 1 := Scalar.cmpi .slt v3 c26_i32
  let c1_i32_0 : BitVec 32 := 1#32
  let c0_i32_1 : BitVec 32 := 0#32
  let v5 : BitVec 32 := Scalar.select v4 c1_i32_0 c0_i32_1
  let v7 : BitVec 32 := Scalar.muli v3 v5
  let c0_i32_3 : BitVec 32 := 0#32
  let v8 : BitVec 32 := Scalar.muli v3 c0_i32_3
  let c26_i32_4 : BitVec 32 := 26#32
  let v9 : BitVec 32 := Scalar.addi v8 c26_i32_4
  let v10 : BitVec 32 := Scalar.select v6 v7 v9
  let v147_r0 : BitVec 32 := Scalar.addi arg9_r0 v10
  let true_140_r0 : BitVec 1 := 1#1
  let c1_i32_142_r0 : BitVec 32 := 1#32
  let c0_i32_141_r0 : BitVec 32 := 0#32
  let v163_r0 : BitVec 32 := Scalar.select true_140_r0 c1_i32_142_r0 c0_i32_141_r0
  let c1_i32_143_r0 : BitVec 32 := 1#32
  let v164_r0 : BitVec 1 := Scalar.cmpi .eq v163_r0 c1_i32_143_r0
  let c1_i32_145_r0 : BitVec 32 := 1#32
  let v166_r0 : BitVec 32 := Scalar.addi arg10_r0 c1_i32_145_r0
  let v167_r0 : BitVec 32 := Scalar.select v164_r0 v166_r0 arg10_r0
  let c25_i32_146_r0 : BitVec 32 := 25#32
  let v168_r0 : BitVec 1 := Scalar.cmpi .eq v167_r0 c25_i32_146_r0
  let c1_i32_148_r0 : BitVec 32 := 1#32
  let v170_r0 : BitVec 32 := Scalar.addi arg9_r0 c1_i32_148_r0
  let v171_r0 : BitVec 32 := Scalar.select v168_r0 v170_r0 arg9_r0
  let v172_r0 : BitVec 1 := Scalar.cmpi .eq v171_r0 v5
  let c0_i32_149_r0 : BitVec 32 := 0#32
  let v173_r0 : BitVec 32 := Scalar.select v172_r0 c0_i32_149_r0 v171_r0
  let v174_r0 : BitVec 32 := Scalar.addi v173_r0 v10
  let v189_r0 : BitVec 1 := Scalar.cmpi .ne v147_r0 v174_r0
  let c0_i32_127_r0 : BitVec 32 := 0#32
  let v148_r0 : BitVec 32 := Scalar.addi arg10_r0 c0_i32_127_r0
  let c0_i32_147_r0 : BitVec 32 := 0#32
  let v169_r0 : BitVec 32 := Scalar.select v168_r0 c0_i32_147_r0 v167_r0
  let c0_i32_150_r0 : BitVec 32 := 0#32
  let v175_r0 : BitVec 32 := Scalar.addi v169_r0 c0_i32_150_r0
  let v190_r0 : BitVec 1 := Scalar.cmpi .ne v148_r0 v175_r0
  let v191_r0 : BitVec 1 := Scalar.ori v189_r0 v190_r0
  let c0_i32_59_r0 : BitVec 32 := 0#32
  let c1_i32_5 : BitVec 32 := 1#32
  let v11 : BitVec 32 := Scalar.muli c1_i32_5 v5
  let c25_i32 : BitVec 32 := 25#32
  let v12 : BitVec 32 := Scalar.muli v11 c25_i32
  let c1_i32_6 : BitVec 32 := 1#32
  let v13 : BitVec 32 := Scalar.muli v12 c1_i32_6
  let v68_r0 : BitVec 32 := Scalar.subi v13 c0_i32_59_r0
  let c1_i32_66_r0 : BitVec 32 := 1#32
  let v70_r0 : BitVec 32 := Scalar.divsi v68_r0 c1_i32_66_r0
  let v71_r0 : BitVec 32 := Scalar.muli v70_r0 c1_i32_66_r0
  let v72_r0 : BitVec 32 := Scalar.addi c0_i32_59_r0 v71_r0
  let c1_i32_68_r0 : BitVec 32 := 1#32
  let arg4_r0 : BitVec 32 := Scf.iv v72_r0 c1_i32_68_r0 k0_t4
  let c1_i32_122_r0 : BitVec 32 := 1#32
  let v141_r0 : BitVec 32 := Scalar.muli c1_i32_122_r0 v5
  let c25_i32_123_r0 : BitVec 32 := 25#32
  let v142_r0 : BitVec 32 := Scalar.muli v141_r0 c25_i32_123_r0
  let c1_i32_124_r0 : BitVec 32 := 1#32
  let v143_r0 : BitVec 32 := Scalar.muli v142_r0 c1_i32_124_r0
  let c2_i32_r0 : BitVec 32 := 2#32
  let v192_r0 : BitVec 32 := Scalar.subi v143_r0 c2_i32_r0
  let c1_i32_162_r0 : BitVec 32 := 1#32
  let v193_r0 : BitVec 32 := Scalar.addi v192_r0 c1_i32_162_r0
  let v194_r0 : BitVec 1 := Scalar.cmpi .sge arg4_r0 v193_r0
  let true_163_r0 : BitVec 1 := 1#1
  let v195_r0 : BitVec 1 := Scalar.xori v194_r0 true_163_r0
  let v196_r0 : BitVec 1 := Scalar.andi v191_r0 v195_r0
  let true_164_r0 : BitVec 1 := 1#1
  let v197_r0 : BitVec 1 := Scalar.andi v196_r0 true_164_r0
  let v198_r0 : BitVec 32 := Scalar.extui v197_r0
  let c0_i32_165_r0 : BitVec 32 := 0#32
  let v199_r0 : BitVec 1 := Scalar.cmpi .ne v198_r0 c0_i32_165_r0
  v199_r0

def k0_off21 (i : grid0.Coords) (arg9_r0 : BitVec 32) (arg10_r0 : BitVec 32) : Fin 3 → Nat :=
  let c1_i32_204_r0 : BitVec 32 := 1#32
  let true_140_r0 : BitVec 1 := 1#1
  let c1_i32_142_r0 : BitVec 32 := 1#32
  let c0_i32_141_r0 : BitVec 32 := 0#32
  let v163_r0 : BitVec 32 := Scalar.select true_140_r0 c1_i32_142_r0 c0_i32_141_r0
  let c1_i32_143_r0 : BitVec 32 := 1#32
  let v164_r0 : BitVec 1 := Scalar.cmpi .eq v163_r0 c1_i32_143_r0
  let c1_i32_145_r0 : BitVec 32 := 1#32
  let v166_r0 : BitVec 32 := Scalar.addi arg10_r0 c1_i32_145_r0
  let v167_r0 : BitVec 32 := Scalar.select v164_r0 v166_r0 arg10_r0
  let c25_i32_146_r0 : BitVec 32 := 25#32
  let v168_r0 : BitVec 1 := Scalar.cmpi .eq v167_r0 c25_i32_146_r0
  let c1_i32_148_r0 : BitVec 32 := 1#32
  let v170_r0 : BitVec 32 := Scalar.addi arg9_r0 c1_i32_148_r0
  let v171_r0 : BitVec 32 := Scalar.select v168_r0 v170_r0 arg9_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c1_i32_0 : BitVec 32 := 1#32
  let c0_i32_1 : BitVec 32 := 0#32
  let v5 : BitVec 32 := Scalar.select v4 c1_i32_0 c0_i32_1
  let v172_r0 : BitVec 1 := Scalar.cmpi .eq v171_r0 v5
  let c0_i32_149_r0 : BitVec 32 := 0#32
  let v173_r0 : BitVec 32 := Scalar.select v172_r0 c0_i32_149_r0 v171_r0
  let c26_i32_2 : BitVec 32 := 26#32
  let v6 : BitVec 1 := Scalar.cmpi .slt v3 c26_i32_2
  let v7 : BitVec 32 := Scalar.muli v3 v5
  let c0_i32_3 : BitVec 32 := 0#32
  let v8 : BitVec 32 := Scalar.muli v3 c0_i32_3
  let c26_i32_4 : BitVec 32 := 26#32
  let v9 : BitVec 32 := Scalar.addi v8 c26_i32_4
  let v10 : BitVec 32 := Scalar.select v6 v7 v9
  let v174_r0 : BitVec 32 := Scalar.addi v173_r0 v10
  let v282_r0 : BitVec 32 := Scalar.muli c1_i32_204_r0 v174_r0
  let c8_i32_205_r0 : BitVec 32 := 8#32
  let c0_i32_147_r0 : BitVec 32 := 0#32
  let v169_r0 : BitVec 32 := Scalar.select v168_r0 c0_i32_147_r0 v167_r0
  let c0_i32_150_r0 : BitVec 32 := 0#32
  let v175_r0 : BitVec 32 := Scalar.addi v169_r0 c0_i32_150_r0
  let v283_r0 : BitVec 32 := Scalar.muli c8_i32_205_r0 v175_r0
  let c0_i32_209_r0 : BitVec 32 := 0#32
  ![v282_r0.toNat, v283_r0.toNat, 0]
def k0_off22 (arg5_r0 : BitVec 32) : Fin 1 → Nat :=
  let c2_i32_203_r0 : BitVec 32 := 2#32
  let v281_r0 : BitVec 32 := Scalar.remui arg5_r0 c2_i32_203_r0
  ![v281_r0.toNat]
def k0_off23 (arg6_r0 : BitVec 32) : Fin 4 → Nat :=
  let c2_i32_205_r0 : BitVec 32 := 2#32
  let v283_r0 : BitVec 32 := Scalar.remui arg6_r0 c2_i32_205_r0
  let c0_i32_206_r0 : BitVec 32 := 0#32
  let c0_i32_207_r0 : BitVec 32 := 0#32
  let c0_i32_208_r0 : BitVec 32 := 0#32
  ![v283_r0.toNat, 0, 0, 0]
def k0_cond11 (i : grid0.Coords) (k0_t4 : Fin (k0_t4_loop i).trips) (arg9_r0 : BitVec 32) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_2 : BitVec 32 := 26#32
  let v6 : BitVec 1 := Scalar.cmpi .slt v3 c26_i32_2
  let c26_i32 : BitVec 32 := 26#32
  let v4 : BitVec 1 := Scalar.cmpi .slt v3 c26_i32
  let c1_i32_0 : BitVec 32 := 1#32
  let c0_i32_1 : BitVec 32 := 0#32
  let v5 : BitVec 32 := Scalar.select v4 c1_i32_0 c0_i32_1
  let v7 : BitVec 32 := Scalar.muli v3 v5
  let c0_i32_3 : BitVec 32 := 0#32
  let v8 : BitVec 32 := Scalar.muli v3 c0_i32_3
  let c26_i32_4 : BitVec 32 := 26#32
  let v9 : BitVec 32 := Scalar.addi v8 c26_i32_4
  let v10 : BitVec 32 := Scalar.select v6 v7 v9
  let v147_r0 : BitVec 32 := Scalar.addi arg9_r0 v10
  let true_128_r0 : BitVec 1 := 1#1
  let c_m1_i32_130_r0 : BitVec 32 := 4294967295#32
  let c0_i32_129_r0 : BitVec 32 := 0#32
  let v149_r0 : BitVec 32 := Scalar.select true_128_r0 c_m1_i32_130_r0 c0_i32_129_r0
  let c_m1_i32_131_r0 : BitVec 32 := 4294967295#32
  let v150_r0 : BitVec 1 := Scalar.cmpi .eq v149_r0 c_m1_i32_131_r0
  let c1_i32_133_r0 : BitVec 32 := 1#32
  let v152_r0 : BitVec 32 := Scalar.subi arg10_r0 c1_i32_133_r0
  let v153_r0 : BitVec 32 := Scalar.select v150_r0 v152_r0 arg10_r0
  let c_m1_i32_134_r0 : BitVec 32 := 4294967295#32
  let v154_r0 : BitVec 1 := Scalar.cmpi .eq v153_r0 c_m1_i32_134_r0
  let c1_i32_136_r0 : BitVec 32 := 1#32
  let v156_r0 : BitVec 32 := Scalar.subi arg9_r0 c1_i32_136_r0
  let v157_r0 : BitVec 32 := Scalar.select v154_r0 v156_r0 arg9_r0
  let c_m1_i32_137_r0 : BitVec 32 := 4294967295#32
  let v158_r0 : BitVec 1 := Scalar.cmpi .eq v157_r0 c_m1_i32_137_r0
  let c1_i32_138_r0 : BitVec 32 := 1#32
  let v159_r0 : BitVec 32 := Scalar.subi v5 c1_i32_138_r0
  let v160_r0 : BitVec 32 := Scalar.select v158_r0 v159_r0 v157_r0
  let v161_r0 : BitVec 32 := Scalar.addi v160_r0 v10
  let v211_r0 : BitVec 1 := Scalar.cmpi .ne v147_r0 v161_r0
  let c0_i32_127_r0 : BitVec 32 := 0#32
  let v148_r0 : BitVec 32 := Scalar.addi arg10_r0 c0_i32_127_r0
  let c24_i32_135_r0 : BitVec 32 := 24#32
  let v155_r0 : BitVec 32 := Scalar.select v154_r0 c24_i32_135_r0 v153_r0
  let c0_i32_139_r0 : BitVec 32 := 0#32
  let v162_r0 : BitVec 32 := Scalar.addi v155_r0 c0_i32_139_r0
  let v212_r0 : BitVec 1 := Scalar.cmpi .ne v148_r0 v162_r0
  let v213_r0 : BitVec 1 := Scalar.ori v211_r0 v212_r0
  let c0_i32_59_r0 : BitVec 32 := 0#32
  let c1_i32_5 : BitVec 32 := 1#32
  let v11 : BitVec 32 := Scalar.muli c1_i32_5 v5
  let c25_i32 : BitVec 32 := 25#32
  let v12 : BitVec 32 := Scalar.muli v11 c25_i32
  let c1_i32_6 : BitVec 32 := 1#32
  let v13 : BitVec 32 := Scalar.muli v12 c1_i32_6
  let v68_r0 : BitVec 32 := Scalar.subi v13 c0_i32_59_r0
  let c1_i32_66_r0 : BitVec 32 := 1#32
  let v70_r0 : BitVec 32 := Scalar.divsi v68_r0 c1_i32_66_r0
  let v71_r0 : BitVec 32 := Scalar.muli v70_r0 c1_i32_66_r0
  let v72_r0 : BitVec 32 := Scalar.addi c0_i32_59_r0 v71_r0
  let c1_i32_68_r0 : BitVec 32 := 1#32
  let arg4_r0 : BitVec 32 := Scf.iv v72_r0 c1_i32_68_r0 k0_t4
  let c0_i32_125_r0 : BitVec 32 := 0#32
  let v144_r0 : BitVec 1 := Scalar.cmpi .eq arg4_r0 c0_i32_125_r0
  let v214_r0 : BitVec 1 := Scalar.ori v213_r0 v144_r0
  let c0_i32_171_r0 : BitVec 32 := 0#32
  let v215_r0 : BitVec 1 := Scalar.cmpi .sge arg4_r0 c0_i32_171_r0
  let v216_r0 : BitVec 1 := Scalar.andi v214_r0 v215_r0
  let v217_r0 : BitVec 32 := Scalar.extui v216_r0
  let c0_i32_172_r0 : BitVec 32 := 0#32
  let v218_r0 : BitVec 1 := Scalar.cmpi .ne v217_r0 c0_i32_172_r0
  v218_r0

def k0_off24 (i : grid0.Coords) (arg9_r0 : BitVec 32) (arg10_r0 : BitVec 32) : Fin 3 → Nat :=
  let c1_i32_203_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_2 : BitVec 32 := 26#32
  let v6 : BitVec 1 := Scalar.cmpi .slt v3 c26_i32_2
  let c26_i32 : BitVec 32 := 26#32
  let v4 : BitVec 1 := Scalar.cmpi .slt v3 c26_i32
  let c1_i32_0 : BitVec 32 := 1#32
  let c0_i32_1 : BitVec 32 := 0#32
  let v5 : BitVec 32 := Scalar.select v4 c1_i32_0 c0_i32_1
  let v7 : BitVec 32 := Scalar.muli v3 v5
  let c0_i32_3 : BitVec 32 := 0#32
  let v8 : BitVec 32 := Scalar.muli v3 c0_i32_3
  let c26_i32_4 : BitVec 32 := 26#32
  let v9 : BitVec 32 := Scalar.addi v8 c26_i32_4
  let v10 : BitVec 32 := Scalar.select v6 v7 v9
  let v147_r0 : BitVec 32 := Scalar.addi arg9_r0 v10
  let v281_r0 : BitVec 32 := Scalar.muli c1_i32_203_r0 v147_r0
  let c8_i32_204_r0 : BitVec 32 := 8#32
  let c0_i32_127_r0 : BitVec 32 := 0#32
  let v148_r0 : BitVec 32 := Scalar.addi arg10_r0 c0_i32_127_r0
  let v282_r0 : BitVec 32 := Scalar.muli c8_i32_204_r0 v148_r0
  let c0_i32_209_r0 : BitVec 32 := 0#32
  ![v281_r0.toNat, v282_r0.toNat, 0]
def k0_off25 (arg6_r0 : BitVec 32) : Fin 1 → Nat :=
  let c2_i32_205_r0 : BitVec 32 := 2#32
  let v283_r0 : BitVec 32 := Scalar.remui arg6_r0 c2_i32_205_r0
  ![v283_r0.toNat]
@[reducible] def k0_t5_loop : Scf.Loop 32 :=
  let c0_i32_177_r0 : BitVec 32 := 0#32
  let c8_i32_r0 : BitVec 32 := 8#32
  let v229_r0 : BitVec 32 := Scalar.addi c0_i32_177_r0 c8_i32_r0
  let c1_i32_178_r0 : BitVec 32 := 1#32
  ⟨c0_i32_177_r0, v229_r0, c1_i32_178_r0⟩
@[reducible] def k0_t6_loop : Scf.Loop 32 :=
  let c0_i32_205_r0 : BitVec 32 := 0#32
  let c256_i32_r0 : BitVec 32 := 256#32
  let v283_r0 : BitVec 32 := Scalar.addi c0_i32_205_r0 c256_i32_r0
  let c1_i32_206_r0 : BitVec 32 := 1#32
  ⟨c0_i32_205_r0, v283_r0, c1_i32_206_r0⟩
def k0_off26 (arg6_r0 : BitVec 32) : Fin 4 → Nat :=
  let c2_i32_175_r0 : BitVec 32 := 2#32
  let v227_r0 : BitVec 32 := Scalar.remui arg6_r0 c2_i32_175_r0
  let c0_i32_211_r0 : BitVec 32 := 0#32
  let c0_i32_212_r0 : BitVec 32 := 0#32
  let c0_i32_213_r0 : BitVec 32 := 0#32
  ![v227_r0.toNat, 0, 0, 0]

def k0_chk5 (i : grid0.Coords) (k0_t4 : Fin (k0_t4_loop i).trips) (arg6_r0 : BitVec 32) : Prop :=
  (∀ (k0_h1 : k0_cond1 i = 1#1), ∀ a, (k0_off26 arg6_r0) a + S1x1x8x4096.size a ≤ S2x1x8x4096.size a)
theorem k0_off26_inb : ∀ (i : grid0.Coords) (k0_t4 : Fin (k0_t4_loop i).trips) (arg6_r0 : BitVec 32) (k0_hw5 : k0_chk5 i k0_t4 arg6_r0), ∀ (k0_h1 : k0_cond1 i = 1#1), ∀ a, (k0_off26 arg6_r0) a + S1x1x8x4096.size a ≤ S2x1x8x4096.size a := fun i k0_t4 arg6_r0 k0_hw5 k0_h1 => k0_hw5 k0_h1

def k0_off27 (k0_t5 : Fin k0_t5_loop.trips) (k0_t6 : Fin k0_t6_loop.trips) : Fin 3 → Nat :=
  let c0_i32_210_r0 : BitVec 32 := 0#32
  let v288_r0 : Index := Scalar.indexCast c0_i32_210_r0
  let c0_i32_204_r0 : BitVec 32 := 0#32
  let c0_i32_177_r0 : BitVec 32 := 0#32
  let c1_i32_178_r0 : BitVec 32 := 1#32
  let arg12_r0 : BitVec 32 := Scf.iv c0_i32_177_r0 c1_i32_178_r0 k0_t5
  let c1_i32_203_r0 : BitVec 32 := 1#32
  let v281_r0 : BitVec 32 := Scalar.muli arg12_r0 c1_i32_203_r0
  let v282_r0 : BitVec 32 := Scalar.addi c0_i32_204_r0 v281_r0
  let v289_r0 : Index := Scalar.indexCast v282_r0
  let c0_i32_209_r0 : BitVec 32 := 0#32
  let c0_i32_205_r0 : BitVec 32 := 0#32
  let c1_i32_206_r0 : BitVec 32 := 1#32
  let arg13_r0 : BitVec 32 := Scf.iv c0_i32_205_r0 c1_i32_206_r0 k0_t6
  let c16_i32_208_r0 : BitVec 32 := 16#32
  let v284_r0 : BitVec 32 := Scalar.muli arg13_r0 c16_i32_208_r0
  let v285_r0 : BitVec 32 := Scalar.addi c0_i32_209_r0 v284_r0
  let v290_r0 : Index := Scalar.indexCast v285_r0
  ![0, v289_r0.toNat, v290_r0.toNat]
def k0_off28 (arg7_r0 : BitVec 32) : Fin 4 → Nat :=
  let c2_i32_176_r0 : BitVec 32 := 2#32
  let v228_r0 : BitVec 32 := Scalar.remui arg7_r0 c2_i32_176_r0
  let c0_i32_216_r0 : BitVec 32 := 0#32
  let c0_i32_217_r0 : BitVec 32 := 0#32
  let c0_i32_218_r0 : BitVec 32 := 0#32
  ![v228_r0.toNat, 0, 0, 0]

def k0_chk6 (i : grid0.Coords) (k0_t4 : Fin (k0_t4_loop i).trips) (arg7_r0 : BitVec 32) : Prop :=
  (∀ (k0_h1 : k0_cond1 i = 1#1), ∀ a, (k0_off28 arg7_r0) a + S1x1x8x4096.size a ≤ S2x1x8x4096.size a)
theorem k0_off28_inb : ∀ (i : grid0.Coords) (k0_t4 : Fin (k0_t4_loop i).trips) (arg7_r0 : BitVec 32) (k0_hw6 : k0_chk6 i k0_t4 arg7_r0), ∀ (k0_h1 : k0_cond1 i = 1#1), ∀ a, (k0_off28 arg7_r0) a + S1x1x8x4096.size a ≤ S2x1x8x4096.size a := fun i k0_t4 arg7_r0 k0_hw6 k0_h1 => k0_hw6 k0_h1

def k0_off29 (k0_t5 : Fin k0_t5_loop.trips) (k0_t6 : Fin k0_t6_loop.trips) : Fin 3 → Nat :=
  let c0_i32_215_r0 : BitVec 32 := 0#32
  let v300_r0 : Index := Scalar.indexCast c0_i32_215_r0
  let c0_i32_204_r0 : BitVec 32 := 0#32
  let c0_i32_177_r0 : BitVec 32 := 0#32
  let c1_i32_178_r0 : BitVec 32 := 1#32
  let arg12_r0 : BitVec 32 := Scf.iv c0_i32_177_r0 c1_i32_178_r0 k0_t5
  let c1_i32_203_r0 : BitVec 32 := 1#32
  let v281_r0 : BitVec 32 := Scalar.muli arg12_r0 c1_i32_203_r0
  let v282_r0 : BitVec 32 := Scalar.addi c0_i32_204_r0 v281_r0
  let v301_r0 : Index := Scalar.indexCast v282_r0
  let c0_i32_209_r0 : BitVec 32 := 0#32
  let c0_i32_205_r0 : BitVec 32 := 0#32
  let c1_i32_206_r0 : BitVec 32 := 1#32
  let arg13_r0 : BitVec 32 := Scf.iv c0_i32_205_r0 c1_i32_206_r0 k0_t6
  let c16_i32_208_r0 : BitVec 32 := 16#32
  let v284_r0 : BitVec 32 := Scalar.muli arg13_r0 c16_i32_208_r0
  let v285_r0 : BitVec 32 := Scalar.addi c0_i32_209_r0 v284_r0
  let v302_r0 : Index := Scalar.indexCast v285_r0
  ![0, v301_r0.toNat, v302_r0.toNat]
def k0_off30 (arg7_r0 : BitVec 32) : Fin 4 → Nat :=
  let c2_i32_203_r0 : BitVec 32 := 2#32
  let v281_r0 : BitVec 32 := Scalar.remui arg7_r0 c2_i32_203_r0
  let c0_i32_206_r0 : BitVec 32 := 0#32
  let c0_i32_207_r0 : BitVec 32 := 0#32
  let c0_i32_208_r0 : BitVec 32 := 0#32
  ![v281_r0.toNat, 0, 0, 0]
def k0_cond14 (i : grid0.Coords) (k0_t4 : Fin (k0_t4_loop i).trips) (arg9_r0 : BitVec 32) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_2 : BitVec 32 := 26#32
  let v6 : BitVec 1 := Scalar.cmpi .slt v3 c26_i32_2
  let c26_i32 : BitVec 32 := 26#32
  let v4 : BitVec 1 := Scalar.cmpi .slt v3 c26_i32
  let c1_i32_0 : BitVec 32 := 1#32
  let c0_i32_1 : BitVec 32 := 0#32
  let v5 : BitVec 32 := Scalar.select v4 c1_i32_0 c0_i32_1
  let v7 : BitVec 32 := Scalar.muli v3 v5
  let c0_i32_3 : BitVec 32 := 0#32
  let v8 : BitVec 32 := Scalar.muli v3 c0_i32_3
  let c26_i32_4 : BitVec 32 := 26#32
  let v9 : BitVec 32 := Scalar.addi v8 c26_i32_4
  let v10 : BitVec 32 := Scalar.select v6 v7 v9
  let v147_r0 : BitVec 32 := Scalar.addi arg9_r0 v10
  let true_140_r0 : BitVec 1 := 1#1
  let c1_i32_142_r0 : BitVec 32 := 1#32
  let c0_i32_141_r0 : BitVec 32 := 0#32
  let v163_r0 : BitVec 32 := Scalar.select true_140_r0 c1_i32_142_r0 c0_i32_141_r0
  let c1_i32_143_r0 : BitVec 32 := 1#32
  let v164_r0 : BitVec 1 := Scalar.cmpi .eq v163_r0 c1_i32_143_r0
  let c1_i32_145_r0 : BitVec 32 := 1#32
  let v166_r0 : BitVec 32 := Scalar.addi arg10_r0 c1_i32_145_r0
  let v167_r0 : BitVec 32 := Scalar.select v164_r0 v166_r0 arg10_r0
  let c25_i32_146_r0 : BitVec 32 := 25#32
  let v168_r0 : BitVec 1 := Scalar.cmpi .eq v167_r0 c25_i32_146_r0
  let c1_i32_148_r0 : BitVec 32 := 1#32
  let v170_r0 : BitVec 32 := Scalar.addi arg9_r0 c1_i32_148_r0
  let v171_r0 : BitVec 32 := Scalar.select v168_r0 v170_r0 arg9_r0
  let v172_r0 : BitVec 1 := Scalar.cmpi .eq v171_r0 v5
  let c0_i32_149_r0 : BitVec 32 := 0#32
  let v173_r0 : BitVec 32 := Scalar.select v172_r0 c0_i32_149_r0 v171_r0
  let v174_r0 : BitVec 32 := Scalar.addi v173_r0 v10
  let v237_r0 : BitVec 1 := Scalar.cmpi .ne v147_r0 v174_r0
  let c0_i32_127_r0 : BitVec 32 := 0#32
  let v148_r0 : BitVec 32 := Scalar.addi arg10_r0 c0_i32_127_r0
  let c0_i32_147_r0 : BitVec 32 := 0#32
  let v169_r0 : BitVec 32 := Scalar.select v168_r0 c0_i32_147_r0 v167_r0
  let c0_i32_150_r0 : BitVec 32 := 0#32
  let v175_r0 : BitVec 32 := Scalar.addi v169_r0 c0_i32_150_r0
  let v238_r0 : BitVec 1 := Scalar.cmpi .ne v148_r0 v175_r0
  let v239_r0 : BitVec 1 := Scalar.ori v237_r0 v238_r0
  let c0_i32_59_r0 : BitVec 32 := 0#32
  let c1_i32_5 : BitVec 32 := 1#32
  let v11 : BitVec 32 := Scalar.muli c1_i32_5 v5
  let c25_i32 : BitVec 32 := 25#32
  let v12 : BitVec 32 := Scalar.muli v11 c25_i32
  let c1_i32_6 : BitVec 32 := 1#32
  let v13 : BitVec 32 := Scalar.muli v12 c1_i32_6
  let v68_r0 : BitVec 32 := Scalar.subi v13 c0_i32_59_r0
  let c1_i32_66_r0 : BitVec 32 := 1#32
  let v70_r0 : BitVec 32 := Scalar.divsi v68_r0 c1_i32_66_r0
  let v71_r0 : BitVec 32 := Scalar.muli v70_r0 c1_i32_66_r0
  let v72_r0 : BitVec 32 := Scalar.addi c0_i32_59_r0 v71_r0
  let c1_i32_68_r0 : BitVec 32 := 1#32
  let arg4_r0 : BitVec 32 := Scf.iv v72_r0 c1_i32_68_r0 k0_t4
  let c1_i32_122_r0 : BitVec 32 := 1#32
  let v141_r0 : BitVec 32 := Scalar.muli c1_i32_122_r0 v5
  let c25_i32_123_r0 : BitVec 32 := 25#32
  let v142_r0 : BitVec 32 := Scalar.muli v141_r0 c25_i32_123_r0
  let c1_i32_124_r0 : BitVec 32 := 1#32
  let v143_r0 : BitVec 32 := Scalar.muli v142_r0 c1_i32_124_r0
  let c1_i32_126_r0 : BitVec 32 := 1#32
  let v145_r0 : BitVec 32 := Scalar.subi v143_r0 c1_i32_126_r0
  let v146_r0 : BitVec 1 := Scalar.cmpi .eq arg4_r0 v145_r0
  let v240_r0 : BitVec 1 := Scalar.ori v239_r0 v146_r0
  let v241_r0 : BitVec 32 := Scalar.extui v240_r0
  let c0_i32_181_r0 : BitVec 32 := 0#32
  let v242_r0 : BitVec 1 := Scalar.cmpi .ne v241_r0 c0_i32_181_r0
  v242_r0

def k0_off31 (i : grid0.Coords) (arg9_r0 : BitVec 32) (arg10_r0 : BitVec 32) : Fin 3 → Nat :=
  let c1_i32_204_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_2 : BitVec 32 := 26#32
  let v6 : BitVec 1 := Scalar.cmpi .slt v3 c26_i32_2
  let c26_i32 : BitVec 32 := 26#32
  let v4 : BitVec 1 := Scalar.cmpi .slt v3 c26_i32
  let c1_i32_0 : BitVec 32 := 1#32
  let c0_i32_1 : BitVec 32 := 0#32
  let v5 : BitVec 32 := Scalar.select v4 c1_i32_0 c0_i32_1
  let v7 : BitVec 32 := Scalar.muli v3 v5
  let c0_i32_3 : BitVec 32 := 0#32
  let v8 : BitVec 32 := Scalar.muli v3 c0_i32_3
  let c26_i32_4 : BitVec 32 := 26#32
  let v9 : BitVec 32 := Scalar.addi v8 c26_i32_4
  let v10 : BitVec 32 := Scalar.select v6 v7 v9
  let v147_r0 : BitVec 32 := Scalar.addi arg9_r0 v10
  let v282_r0 : BitVec 32 := Scalar.muli c1_i32_204_r0 v147_r0
  let c8_i32_205_r0 : BitVec 32 := 8#32
  let c0_i32_127_r0 : BitVec 32 := 0#32
  let v148_r0 : BitVec 32 := Scalar.addi arg10_r0 c0_i32_127_r0
  let v283_r0 : BitVec 32 := Scalar.muli c8_i32_205_r0 v148_r0
  let c0_i32_209_r0 : BitVec 32 := 0#32
  ![v282_r0.toNat, v283_r0.toNat, 0]
def k0_off32 (arg7_r0 : BitVec 32) : Fin 1 → Nat :=
  let c2_i32_203_r0 : BitVec 32 := 2#32
  let v281_r0 : BitVec 32 := Scalar.remui arg7_r0 c2_i32_203_r0
  ![v281_r0.toNat]
def k0_off33 (arg8_r0 : BitVec 32) : Fin 4 → Nat :=
  let c2_i32_203_r0 : BitVec 32 := 2#32
  let v281_r0 : BitVec 32 := Scalar.remui arg8_r0 c2_i32_203_r0
  let c0_i32_206_r0 : BitVec 32 := 0#32
  let c0_i32_207_r0 : BitVec 32 := 0#32
  let c0_i32_208_r0 : BitVec 32 := 0#32
  ![v281_r0.toNat, 0, 0, 0]
def k0_cond16 (i : grid0.Coords) (k0_t4 : Fin (k0_t4_loop i).trips) (arg9_r0 : BitVec 32) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_2 : BitVec 32 := 26#32
  let v6 : BitVec 1 := Scalar.cmpi .slt v3 c26_i32_2
  let c26_i32 : BitVec 32 := 26#32
  let v4 : BitVec 1 := Scalar.cmpi .slt v3 c26_i32
  let c1_i32_0 : BitVec 32 := 1#32
  let c0_i32_1 : BitVec 32 := 0#32
  let v5 : BitVec 32 := Scalar.select v4 c1_i32_0 c0_i32_1
  let v7 : BitVec 32 := Scalar.muli v3 v5
  let c0_i32_3 : BitVec 32 := 0#32
  let v8 : BitVec 32 := Scalar.muli v3 c0_i32_3
  let c26_i32_4 : BitVec 32 := 26#32
  let v9 : BitVec 32 := Scalar.addi v8 c26_i32_4
  let v10 : BitVec 32 := Scalar.select v6 v7 v9
  let v147_r0 : BitVec 32 := Scalar.addi arg9_r0 v10
  let true_128_r0 : BitVec 1 := 1#1
  let c_m1_i32_130_r0 : BitVec 32 := 4294967295#32
  let c0_i32_129_r0 : BitVec 32 := 0#32
  let v149_r0 : BitVec 32 := Scalar.select true_128_r0 c_m1_i32_130_r0 c0_i32_129_r0
  let c_m1_i32_131_r0 : BitVec 32 := 4294967295#32
  let v150_r0 : BitVec 1 := Scalar.cmpi .eq v149_r0 c_m1_i32_131_r0
  let c1_i32_133_r0 : BitVec 32 := 1#32
  let v152_r0 : BitVec 32 := Scalar.subi arg10_r0 c1_i32_133_r0
  let v153_r0 : BitVec 32 := Scalar.select v150_r0 v152_r0 arg10_r0
  let c_m1_i32_134_r0 : BitVec 32 := 4294967295#32
  let v154_r0 : BitVec 1 := Scalar.cmpi .eq v153_r0 c_m1_i32_134_r0
  let c1_i32_136_r0 : BitVec 32 := 1#32
  let v156_r0 : BitVec 32 := Scalar.subi arg9_r0 c1_i32_136_r0
  let v157_r0 : BitVec 32 := Scalar.select v154_r0 v156_r0 arg9_r0
  let c_m1_i32_137_r0 : BitVec 32 := 4294967295#32
  let v158_r0 : BitVec 1 := Scalar.cmpi .eq v157_r0 c_m1_i32_137_r0
  let c1_i32_138_r0 : BitVec 32 := 1#32
  let v159_r0 : BitVec 32 := Scalar.subi v5 c1_i32_138_r0
  let v160_r0 : BitVec 32 := Scalar.select v158_r0 v159_r0 v157_r0
  let v161_r0 : BitVec 32 := Scalar.addi v160_r0 v10
  let v254_r0 : BitVec 1 := Scalar.cmpi .ne v147_r0 v161_r0
  let c0_i32_127_r0 : BitVec 32 := 0#32
  let v148_r0 : BitVec 32 := Scalar.addi arg10_r0 c0_i32_127_r0
  let c24_i32_135_r0 : BitVec 32 := 24#32
  let v155_r0 : BitVec 32 := Scalar.select v154_r0 c24_i32_135_r0 v153_r0
  let c0_i32_139_r0 : BitVec 32 := 0#32
  let v162_r0 : BitVec 32 := Scalar.addi v155_r0 c0_i32_139_r0
  let v255_r0 : BitVec 1 := Scalar.cmpi .ne v148_r0 v162_r0
  let v256_r0 : BitVec 1 := Scalar.ori v254_r0 v255_r0
  let c0_i32_59_r0 : BitVec 32 := 0#32
  let c1_i32_5 : BitVec 32 := 1#32
  let v11 : BitVec 32 := Scalar.muli c1_i32_5 v5
  let c25_i32 : BitVec 32 := 25#32
  let v12 : BitVec 32 := Scalar.muli v11 c25_i32
  let c1_i32_6 : BitVec 32 := 1#32
  let v13 : BitVec 32 := Scalar.muli v12 c1_i32_6
  let v68_r0 : BitVec 32 := Scalar.subi v13 c0_i32_59_r0
  let c1_i32_66_r0 : BitVec 32 := 1#32
  let v70_r0 : BitVec 32 := Scalar.divsi v68_r0 c1_i32_66_r0
  let v71_r0 : BitVec 32 := Scalar.muli v70_r0 c1_i32_66_r0
  let v72_r0 : BitVec 32 := Scalar.addi c0_i32_59_r0 v71_r0
  let c1_i32_68_r0 : BitVec 32 := 1#32
  let arg4_r0 : BitVec 32 := Scf.iv v72_r0 c1_i32_68_r0 k0_t4
  let c0_i32_125_r0 : BitVec 32 := 0#32
  let v144_r0 : BitVec 1 := Scalar.cmpi .eq arg4_r0 c0_i32_125_r0
  let true_187_r0 : BitVec 1 := 1#1
  let v257_r0 : BitVec 1 := Scalar.xori v144_r0 true_187_r0
  let v258_r0 : BitVec 1 := Scalar.andi v256_r0 v257_r0
  let v259_r0 : BitVec 32 := Scalar.extui v258_r0
  let c0_i32_188_r0 : BitVec 32 := 0#32
  let v260_r0 : BitVec 1 := Scalar.cmpi .ne v259_r0 c0_i32_188_r0
  v260_r0

def k0_off34 (i : grid0.Coords) (arg9_r0 : BitVec 32) (arg10_r0 : BitVec 32) : Fin 3 → Nat :=
  let c1_i32_204_r0 : BitVec 32 := 1#32
  let true_128_r0 : BitVec 1 := 1#1
  let c_m1_i32_130_r0 : BitVec 32 := 4294967295#32
  let c0_i32_129_r0 : BitVec 32 := 0#32
  let v149_r0 : BitVec 32 := Scalar.select true_128_r0 c_m1_i32_130_r0 c0_i32_129_r0
  let c_m1_i32_131_r0 : BitVec 32 := 4294967295#32
  let v150_r0 : BitVec 1 := Scalar.cmpi .eq v149_r0 c_m1_i32_131_r0
  let c1_i32_133_r0 : BitVec 32 := 1#32
  let v152_r0 : BitVec 32 := Scalar.subi arg10_r0 c1_i32_133_r0
  let v153_r0 : BitVec 32 := Scalar.select v150_r0 v152_r0 arg10_r0
  let c_m1_i32_134_r0 : BitVec 32 := 4294967295#32
  let v154_r0 : BitVec 1 := Scalar.cmpi .eq v153_r0 c_m1_i32_134_r0
  let c1_i32_136_r0 : BitVec 32 := 1#32
  let v156_r0 : BitVec 32 := Scalar.subi arg9_r0 c1_i32_136_r0
  let v157_r0 : BitVec 32 := Scalar.select v154_r0 v156_r0 arg9_r0
  let c_m1_i32_137_r0 : BitVec 32 := 4294967295#32
  let v158_r0 : BitVec 1 := Scalar.cmpi .eq v157_r0 c_m1_i32_137_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c1_i32_0 : BitVec 32 := 1#32
  let c0_i32_1 : BitVec 32 := 0#32
  let v5 : BitVec 32 := Scalar.select v4 c1_i32_0 c0_i32_1
  let c1_i32_138_r0 : BitVec 32 := 1#32
  let v159_r0 : BitVec 32 := Scalar.subi v5 c1_i32_138_r0
  let v160_r0 : BitVec 32 := Scalar.select v158_r0 v159_r0 v157_r0
  let c26_i32_2 : BitVec 32 := 26#32
  let v6 : BitVec 1 := Scalar.cmpi .slt v3 c26_i32_2
  let v7 : BitVec 32 := Scalar.muli v3 v5
  let c0_i32_3 : BitVec 32 := 0#32
  let v8 : BitVec 32 := Scalar.muli v3 c0_i32_3
  let c26_i32_4 : BitVec 32 := 26#32
  let v9 : BitVec 32 := Scalar.addi v8 c26_i32_4
  let v10 : BitVec 32 := Scalar.select v6 v7 v9
  let v161_r0 : BitVec 32 := Scalar.addi v160_r0 v10
  let v282_r0 : BitVec 32 := Scalar.muli c1_i32_204_r0 v161_r0
  let c8_i32_205_r0 : BitVec 32 := 8#32
  let c24_i32_135_r0 : BitVec 32 := 24#32
  let v155_r0 : BitVec 32 := Scalar.select v154_r0 c24_i32_135_r0 v153_r0
  let c0_i32_139_r0 : BitVec 32 := 0#32
  let v162_r0 : BitVec 32 := Scalar.addi v155_r0 c0_i32_139_r0
  let v283_r0 : BitVec 32 := Scalar.muli c8_i32_205_r0 v162_r0
  let c0_i32_209_r0 : BitVec 32 := 0#32
  ![v282_r0.toNat, v283_r0.toNat, 0]
def k0_off35 (arg8_r0 : BitVec 32) : Fin 1 → Nat :=
  let c2_i32_203_r0 : BitVec 32 := 2#32
  let v281_r0 : BitVec 32 := Scalar.remui arg8_r0 c2_i32_203_r0
  ![v281_r0.toNat]

def k0_chk4 (i : grid0.Coords) (k0_t4 : Fin (k0_t4_loop i).trips) (arg5_r0 : BitVec 32) (arg6_r0 : BitVec 32) (arg7_r0 : BitVec 32) (arg8_r0 : BitVec 32) (arg9_r0 : BitVec 32) (arg10_r0 : BitVec 32) : Prop :=
  (∀ (k0_h1 : k0_cond1 i = 1#1), ∀ (k0_h10 : k0_cond10 i k0_t4 arg9_r0 arg10_r0 = 1#1), ∀ a, (k0_off20 arg5_r0) a + S1x1x8x4096.size a ≤ S2x1x8x4096.size a) ∧
  (∀ (k0_h1 : k0_cond1 i = 1#1), ∀ (k0_h10 : k0_cond10 i k0_t4 arg9_r0 arg10_r0 = 1#1), ∀ a, (k0_off21 i arg9_r0 arg10_r0) a + S1x8x4096.size a ≤ S26x200x4096.size a) ∧
  (∀ (k0_h1 : k0_cond1 i = 1#1), ∀ (k0_h10 : k0_cond10 i k0_t4 arg9_r0 arg10_r0 = 1#1), ∀ a, (k0_off22 arg5_r0) a + S1.size a ≤ S2.size a) ∧
  (∀ (k0_h1 : k0_cond1 i = 1#1), ∀ (k0_h11 : k0_cond11 i k0_t4 arg9_r0 arg10_r0 = 1#1), ∀ a, (k0_off23 arg6_r0) a + S1x1x8x4096.size a ≤ S2x1x8x4096.size a) ∧
  (∀ (k0_h1 : k0_cond1 i = 1#1), ∀ (k0_h11 : k0_cond11 i k0_t4 arg9_r0 arg10_r0 = 1#1), ∀ a, (k0_off24 i arg9_r0 arg10_r0) a + S1x8x4096.size a ≤ S26x200x4096.size a) ∧
  (∀ (k0_h1 : k0_cond1 i = 1#1), ∀ (k0_h11 : k0_cond11 i k0_t4 arg9_r0 arg10_r0 = 1#1), ∀ a, (k0_off25 arg6_r0) a + S1.size a ≤ S2.size a) ∧
  (∀ (k0_h1 : k0_cond1 i = 1#1), ∀ (k0_h14 : k0_cond14 i k0_t4 arg9_r0 arg10_r0 = 1#1), ∀ a, (k0_off30 arg7_r0) a + S1x1x8x4096.size a ≤ S2x1x8x4096.size a) ∧
  (∀ (k0_h1 : k0_cond1 i = 1#1), ∀ (k0_h14 : k0_cond14 i k0_t4 arg9_r0 arg10_r0 = 1#1), ∀ a, (k0_off31 i arg9_r0 arg10_r0) a + S1x8x4096.size a ≤ S26x200x4096.size a) ∧
  (∀ (k0_h1 : k0_cond1 i = 1#1), ∀ (k0_h14 : k0_cond14 i k0_t4 arg9_r0 arg10_r0 = 1#1), ∀ a, (k0_off32 arg7_r0) a + S1.size a ≤ S2.size a) ∧
  (∀ (k0_h1 : k0_cond1 i = 1#1), ∀ (k0_h16 : k0_cond16 i k0_t4 arg9_r0 arg10_r0 = 1#1), ∀ a, (k0_off33 arg8_r0) a + S1x1x8x4096.size a ≤ S2x1x8x4096.size a) ∧
  (∀ (k0_h1 : k0_cond1 i = 1#1), ∀ (k0_h16 : k0_cond16 i k0_t4 arg9_r0 arg10_r0 = 1#1), ∀ a, (k0_off34 i arg9_r0 arg10_r0) a + S1x8x4096.size a ≤ S26x200x4096.size a) ∧
  (∀ (k0_h1 : k0_cond1 i = 1#1), ∀ (k0_h16 : k0_cond16 i k0_t4 arg9_r0 arg10_r0 = 1#1), ∀ a, (k0_off35 arg8_r0) a + S1.size a ≤ S2.size a)
theorem k0_off20_inb : ∀ (i : grid0.Coords) (k0_t4 : Fin (k0_t4_loop i).trips) (arg5_r0 : BitVec 32) (arg6_r0 : BitVec 32) (arg7_r0 : BitVec 32) (arg8_r0 : BitVec 32) (arg9_r0 : BitVec 32) (arg10_r0 : BitVec 32) (k0_hw4 : k0_chk4 i k0_t4 arg5_r0 arg6_r0 arg7_r0 arg8_r0 arg9_r0 arg10_r0), ∀ (k0_h1 : k0_cond1 i = 1#1), ∀ (k0_h10 : k0_cond10 i k0_t4 arg9_r0 arg10_r0 = 1#1), ∀ a, (k0_off20 arg5_r0) a + S1x1x8x4096.size a ≤ S2x1x8x4096.size a := fun i k0_t4 arg5_r0 arg6_r0 arg7_r0 arg8_r0 arg9_r0 arg10_r0 k0_hw4 k0_h1 k0_h10 => k0_hw4.1 k0_h1 k0_h10
theorem k0_off21_inb : ∀ (i : grid0.Coords) (k0_t4 : Fin (k0_t4_loop i).trips) (arg5_r0 : BitVec 32) (arg6_r0 : BitVec 32) (arg7_r0 : BitVec 32) (arg8_r0 : BitVec 32) (arg9_r0 : BitVec 32) (arg10_r0 : BitVec 32) (k0_hw4 : k0_chk4 i k0_t4 arg5_r0 arg6_r0 arg7_r0 arg8_r0 arg9_r0 arg10_r0), ∀ (k0_h1 : k0_cond1 i = 1#1), ∀ (k0_h10 : k0_cond10 i k0_t4 arg9_r0 arg10_r0 = 1#1), ∀ a, (k0_off21 i arg9_r0 arg10_r0) a + S1x8x4096.size a ≤ S26x200x4096.size a := fun i k0_t4 arg5_r0 arg6_r0 arg7_r0 arg8_r0 arg9_r0 arg10_r0 k0_hw4 k0_h1 k0_h10 => k0_hw4.2.1 k0_h1 k0_h10
theorem k0_off22_inb : ∀ (i : grid0.Coords) (k0_t4 : Fin (k0_t4_loop i).trips) (arg5_r0 : BitVec 32) (arg6_r0 : BitVec 32) (arg7_r0 : BitVec 32) (arg8_r0 : BitVec 32) (arg9_r0 : BitVec 32) (arg10_r0 : BitVec 32) (k0_hw4 : k0_chk4 i k0_t4 arg5_r0 arg6_r0 arg7_r0 arg8_r0 arg9_r0 arg10_r0), ∀ (k0_h1 : k0_cond1 i = 1#1), ∀ (k0_h10 : k0_cond10 i k0_t4 arg9_r0 arg10_r0 = 1#1), ∀ a, (k0_off22 arg5_r0) a + S1.size a ≤ S2.size a := fun i k0_t4 arg5_r0 arg6_r0 arg7_r0 arg8_r0 arg9_r0 arg10_r0 k0_hw4 k0_h1 k0_h10 => k0_hw4.2.2.1 k0_h1 k0_h10
theorem k0_off23_inb : ∀ (i : grid0.Coords) (k0_t4 : Fin (k0_t4_loop i).trips) (arg5_r0 : BitVec 32) (arg6_r0 : BitVec 32) (arg7_r0 : BitVec 32) (arg8_r0 : BitVec 32) (arg9_r0 : BitVec 32) (arg10_r0 : BitVec 32) (k0_hw4 : k0_chk4 i k0_t4 arg5_r0 arg6_r0 arg7_r0 arg8_r0 arg9_r0 arg10_r0), ∀ (k0_h1 : k0_cond1 i = 1#1), ∀ (k0_h11 : k0_cond11 i k0_t4 arg9_r0 arg10_r0 = 1#1), ∀ a, (k0_off23 arg6_r0) a + S1x1x8x4096.size a ≤ S2x1x8x4096.size a := fun i k0_t4 arg5_r0 arg6_r0 arg7_r0 arg8_r0 arg9_r0 arg10_r0 k0_hw4 k0_h1 k0_h11 => k0_hw4.2.2.2.1 k0_h1 k0_h11
theorem k0_off24_inb : ∀ (i : grid0.Coords) (k0_t4 : Fin (k0_t4_loop i).trips) (arg5_r0 : BitVec 32) (arg6_r0 : BitVec 32) (arg7_r0 : BitVec 32) (arg8_r0 : BitVec 32) (arg9_r0 : BitVec 32) (arg10_r0 : BitVec 32) (k0_hw4 : k0_chk4 i k0_t4 arg5_r0 arg6_r0 arg7_r0 arg8_r0 arg9_r0 arg10_r0), ∀ (k0_h1 : k0_cond1 i = 1#1), ∀ (k0_h11 : k0_cond11 i k0_t4 arg9_r0 arg10_r0 = 1#1), ∀ a, (k0_off24 i arg9_r0 arg10_r0) a + S1x8x4096.size a ≤ S26x200x4096.size a := fun i k0_t4 arg5_r0 arg6_r0 arg7_r0 arg8_r0 arg9_r0 arg10_r0 k0_hw4 k0_h1 k0_h11 => k0_hw4.2.2.2.2.1 k0_h1 k0_h11
theorem k0_off25_inb : ∀ (i : grid0.Coords) (k0_t4 : Fin (k0_t4_loop i).trips) (arg5_r0 : BitVec 32) (arg6_r0 : BitVec 32) (arg7_r0 : BitVec 32) (arg8_r0 : BitVec 32) (arg9_r0 : BitVec 32) (arg10_r0 : BitVec 32) (k0_hw4 : k0_chk4 i k0_t4 arg5_r0 arg6_r0 arg7_r0 arg8_r0 arg9_r0 arg10_r0), ∀ (k0_h1 : k0_cond1 i = 1#1), ∀ (k0_h11 : k0_cond11 i k0_t4 arg9_r0 arg10_r0 = 1#1), ∀ a, (k0_off25 arg6_r0) a + S1.size a ≤ S2.size a := fun i k0_t4 arg5_r0 arg6_r0 arg7_r0 arg8_r0 arg9_r0 arg10_r0 k0_hw4 k0_h1 k0_h11 => k0_hw4.2.2.2.2.2.1 k0_h1 k0_h11
theorem k0_off30_inb : ∀ (i : grid0.Coords) (k0_t4 : Fin (k0_t4_loop i).trips) (arg5_r0 : BitVec 32) (arg6_r0 : BitVec 32) (arg7_r0 : BitVec 32) (arg8_r0 : BitVec 32) (arg9_r0 : BitVec 32) (arg10_r0 : BitVec 32) (k0_hw4 : k0_chk4 i k0_t4 arg5_r0 arg6_r0 arg7_r0 arg8_r0 arg9_r0 arg10_r0), ∀ (k0_h1 : k0_cond1 i = 1#1), ∀ (k0_h14 : k0_cond14 i k0_t4 arg9_r0 arg10_r0 = 1#1), ∀ a, (k0_off30 arg7_r0) a + S1x1x8x4096.size a ≤ S2x1x8x4096.size a := fun i k0_t4 arg5_r0 arg6_r0 arg7_r0 arg8_r0 arg9_r0 arg10_r0 k0_hw4 k0_h1 k0_h14 => k0_hw4.2.2.2.2.2.2.1 k0_h1 k0_h14
theorem k0_off31_inb : ∀ (i : grid0.Coords) (k0_t4 : Fin (k0_t4_loop i).trips) (arg5_r0 : BitVec 32) (arg6_r0 : BitVec 32) (arg7_r0 : BitVec 32) (arg8_r0 : BitVec 32) (arg9_r0 : BitVec 32) (arg10_r0 : BitVec 32) (k0_hw4 : k0_chk4 i k0_t4 arg5_r0 arg6_r0 arg7_r0 arg8_r0 arg9_r0 arg10_r0), ∀ (k0_h1 : k0_cond1 i = 1#1), ∀ (k0_h14 : k0_cond14 i k0_t4 arg9_r0 arg10_r0 = 1#1), ∀ a, (k0_off31 i arg9_r0 arg10_r0) a + S1x8x4096.size a ≤ S26x200x4096.size a := fun i k0_t4 arg5_r0 arg6_r0 arg7_r0 arg8_r0 arg9_r0 arg10_r0 k0_hw4 k0_h1 k0_h14 => k0_hw4.2.2.2.2.2.2.2.1 k0_h1 k0_h14
theorem k0_off32_inb : ∀ (i : grid0.Coords) (k0_t4 : Fin (k0_t4_loop i).trips) (arg5_r0 : BitVec 32) (arg6_r0 : BitVec 32) (arg7_r0 : BitVec 32) (arg8_r0 : BitVec 32) (arg9_r0 : BitVec 32) (arg10_r0 : BitVec 32) (k0_hw4 : k0_chk4 i k0_t4 arg5_r0 arg6_r0 arg7_r0 arg8_r0 arg9_r0 arg10_r0), ∀ (k0_h1 : k0_cond1 i = 1#1), ∀ (k0_h14 : k0_cond14 i k0_t4 arg9_r0 arg10_r0 = 1#1), ∀ a, (k0_off32 arg7_r0) a + S1.size a ≤ S2.size a := fun i k0_t4 arg5_r0 arg6_r0 arg7_r0 arg8_r0 arg9_r0 arg10_r0 k0_hw4 k0_h1 k0_h14 => k0_hw4.2.2.2.2.2.2.2.2.1 k0_h1 k0_h14
theorem k0_off33_inb : ∀ (i : grid0.Coords) (k0_t4 : Fin (k0_t4_loop i).trips) (arg5_r0 : BitVec 32) (arg6_r0 : BitVec 32) (arg7_r0 : BitVec 32) (arg8_r0 : BitVec 32) (arg9_r0 : BitVec 32) (arg10_r0 : BitVec 32) (k0_hw4 : k0_chk4 i k0_t4 arg5_r0 arg6_r0 arg7_r0 arg8_r0 arg9_r0 arg10_r0), ∀ (k0_h1 : k0_cond1 i = 1#1), ∀ (k0_h16 : k0_cond16 i k0_t4 arg9_r0 arg10_r0 = 1#1), ∀ a, (k0_off33 arg8_r0) a + S1x1x8x4096.size a ≤ S2x1x8x4096.size a := fun i k0_t4 arg5_r0 arg6_r0 arg7_r0 arg8_r0 arg9_r0 arg10_r0 k0_hw4 k0_h1 k0_h16 => k0_hw4.2.2.2.2.2.2.2.2.2.1 k0_h1 k0_h16
theorem k0_off34_inb : ∀ (i : grid0.Coords) (k0_t4 : Fin (k0_t4_loop i).trips) (arg5_r0 : BitVec 32) (arg6_r0 : BitVec 32) (arg7_r0 : BitVec 32) (arg8_r0 : BitVec 32) (arg9_r0 : BitVec 32) (arg10_r0 : BitVec 32) (k0_hw4 : k0_chk4 i k0_t4 arg5_r0 arg6_r0 arg7_r0 arg8_r0 arg9_r0 arg10_r0), ∀ (k0_h1 : k0_cond1 i = 1#1), ∀ (k0_h16 : k0_cond16 i k0_t4 arg9_r0 arg10_r0 = 1#1), ∀ a, (k0_off34 i arg9_r0 arg10_r0) a + S1x8x4096.size a ≤ S26x200x4096.size a := fun i k0_t4 arg5_r0 arg6_r0 arg7_r0 arg8_r0 arg9_r0 arg10_r0 k0_hw4 k0_h1 k0_h16 => k0_hw4.2.2.2.2.2.2.2.2.2.2.1 k0_h1 k0_h16
theorem k0_off35_inb : ∀ (i : grid0.Coords) (k0_t4 : Fin (k0_t4_loop i).trips) (arg5_r0 : BitVec 32) (arg6_r0 : BitVec 32) (arg7_r0 : BitVec 32) (arg8_r0 : BitVec 32) (arg9_r0 : BitVec 32) (arg10_r0 : BitVec 32) (k0_hw4 : k0_chk4 i k0_t4 arg5_r0 arg6_r0 arg7_r0 arg8_r0 arg9_r0 arg10_r0), ∀ (k0_h1 : k0_cond1 i = 1#1), ∀ (k0_h16 : k0_cond16 i k0_t4 arg9_r0 arg10_r0 = 1#1), ∀ a, (k0_off35 arg8_r0) a + S1.size a ≤ S2.size a := fun i k0_t4 arg5_r0 arg6_r0 arg7_r0 arg8_r0 arg9_r0 arg10_r0 k0_hw4 k0_h1 k0_h16 => k0_hw4.2.2.2.2.2.2.2.2.2.2.2 k0_h1 k0_h16

def k0_cond18 (i : grid0.Coords) : BitVec 1 :=
  let c1_i32_5 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c1_i32_0 : BitVec 32 := 1#32
  let c0_i32_1 : BitVec 32 := 0#32
  let v5 : BitVec 32 := Scalar.select v4 c1_i32_0 c0_i32_1
  let v11 : BitVec 32 := Scalar.muli c1_i32_5 v5
  let c25_i32 : BitVec 32 := 25#32
  let v12 : BitVec 32 := Scalar.muli v11 c25_i32
  let c1_i32_6 : BitVec 32 := 1#32
  let v13 : BitVec 32 := Scalar.muli v12 c1_i32_6
  let c1_i32_79_r0 : BitVec 32 := 1#32
  let v88_r0 : BitVec 32 := Scalar.subi v13 c1_i32_79_r0
  let c1_i32_80_r0 : BitVec 32 := 1#32
  let v89_r0 : BitVec 32 := Scalar.muli c1_i32_80_r0 v5
  let c25_i32_81_r0 : BitVec 32 := 25#32
  let v90_r0 : BitVec 32 := Scalar.muli v89_r0 c25_i32_81_r0
  let c1_i32_82_r0 : BitVec 32 := 1#32
  let v91_r0 : BitVec 32 := Scalar.muli v90_r0 c1_i32_82_r0
  let c1_i32_84_r0 : BitVec 32 := 1#32
  let v93_r0 : BitVec 32 := Scalar.subi v91_r0 c1_i32_84_r0
  let v94_r0 : BitVec 1 := Scalar.cmpi .eq v88_r0 v93_r0
  let v139_r0 : BitVec 32 := Scalar.extui v94_r0
  let c0_i32_121_r0 : BitVec 32 := 0#32
  let v140_r0 : BitVec 1 := Scalar.cmpi .ne v139_r0 c0_i32_121_r0
  v140_r0

def k0_off36 (v74_3_r0 : BitVec 32) : Fin 4 → Nat :=
  let c2_i32_r0 : BitVec 32 := 2#32
  let v141_r0 : BitVec 32 := Scalar.remui v74_3_r0 c2_i32_r0
  let c0_i32_123_r0 : BitVec 32 := 0#32
  let c0_i32_124_r0 : BitVec 32 := 0#32
  let c0_i32_125_r0 : BitVec 32 := 0#32
  ![v141_r0.toNat, 0, 0, 0]

def k0_off37 (i : grid0.Coords) (v74_6_r0 : BitVec 32) (v74_5_r0 : BitVec 32) (v74_4_r0 : BitVec 32) : Fin 3 → Nat :=
  let c1_i32_122_r0 : BitVec 32 := 1#32
  let true_70_r0 : BitVec 1 := 1#1
  let c1_i32_69_r0 : BitVec 32 := 1#32
  let v75_r0 : BitVec 32 := Scalar.subi v74_6_r0 c1_i32_69_r0
  let v76_r0 : BitVec 32 := Scalar.select true_70_r0 v75_r0 v74_6_r0
  let c_m1_i32_71_r0 : BitVec 32 := 4294967295#32
  let v77_r0 : BitVec 1 := Scalar.cmpi .eq v76_r0 c_m1_i32_71_r0
  let c1_i32_73_r0 : BitVec 32 := 1#32
  let v79_r0 : BitVec 32 := Scalar.subi v74_5_r0 c1_i32_73_r0
  let v80_r0 : BitVec 32 := Scalar.select v77_r0 v79_r0 v74_5_r0
  let c_m1_i32_74_r0 : BitVec 32 := 4294967295#32
  let v81_r0 : BitVec 1 := Scalar.cmpi .eq v80_r0 c_m1_i32_74_r0
  let c1_i32_76_r0 : BitVec 32 := 1#32
  let v83_r0 : BitVec 32 := Scalar.subi v74_4_r0 c1_i32_76_r0
  let v84_r0 : BitVec 32 := Scalar.select v81_r0 v83_r0 v74_4_r0
  let c_m1_i32_77_r0 : BitVec 32 := 4294967295#32
  let v85_r0 : BitVec 1 := Scalar.cmpi .eq v84_r0 c_m1_i32_77_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c1_i32_0 : BitVec 32 := 1#32
  let c0_i32_1 : BitVec 32 := 0#32
  let v5 : BitVec 32 := Scalar.select v4 c1_i32_0 c0_i32_1
  let c1_i32_78_r0 : BitVec 32 := 1#32
  let v86_r0 : BitVec 32 := Scalar.subi v5 c1_i32_78_r0
  let v87_r0 : BitVec 32 := Scalar.select v85_r0 v86_r0 v84_r0
  let c26_i32_2 : BitVec 32 := 26#32
  let v6 : BitVec 1 := Scalar.cmpi .slt v3 c26_i32_2
  let v7 : BitVec 32 := Scalar.muli v3 v5
  let c0_i32_3 : BitVec 32 := 0#32
  let v8 : BitVec 32 := Scalar.muli v3 c0_i32_3
  let c26_i32_4 : BitVec 32 := 26#32
  let v9 : BitVec 32 := Scalar.addi v8 c26_i32_4
  let v10 : BitVec 32 := Scalar.select v6 v7 v9
  let v95_r0 : BitVec 32 := Scalar.addi v87_r0 v10
  let v142_r0 : BitVec 32 := Scalar.muli c1_i32_122_r0 v95_r0
  let c8_i32_r0 : BitVec 32 := 8#32
  let c24_i32_75_r0 : BitVec 32 := 24#32
  let v82_r0 : BitVec 32 := Scalar.select v81_r0 c24_i32_75_r0 v80_r0
  let c0_i32_85_r0 : BitVec 32 := 0#32
  let v96_r0 : BitVec 32 := Scalar.addi v82_r0 c0_i32_85_r0
  let v143_r0 : BitVec 32 := Scalar.muli c8_i32_r0 v96_r0
  let c0_i32_126_r0 : BitVec 32 := 0#32
  ![v142_r0.toNat, v143_r0.toNat, 0]

def k0_chk8 (i : grid0.Coords) (v74_6_r0 : BitVec 32) (v74_5_r0 : BitVec 32) (v74_4_r0 : BitVec 32) : Prop :=
  (∀ (k0_h1 : k0_cond1 i = 1#1), ∀ (k0_h18 : k0_cond18 i = 1#1), ∀ a, (k0_off37 i v74_6_r0 v74_5_r0 v74_4_r0) a + S1x8x4096.size a ≤ S26x200x4096.size a)
theorem k0_off37_inb : ∀ (i : grid0.Coords) (v74_6_r0 : BitVec 32) (v74_5_r0 : BitVec 32) (v74_4_r0 : BitVec 32) (k0_hw8 : k0_chk8 i v74_6_r0 v74_5_r0 v74_4_r0), ∀ (k0_h1 : k0_cond1 i = 1#1), ∀ (k0_h18 : k0_cond18 i = 1#1), ∀ a, (k0_off37 i v74_6_r0 v74_5_r0 v74_4_r0) a + S1x8x4096.size a ≤ S26x200x4096.size a := fun i v74_6_r0 v74_5_r0 v74_4_r0 k0_hw8 k0_h1 k0_h18 => k0_hw8 k0_h1 k0_h18

def k0_off38 (v74_3_r0 : BitVec 32) : Fin 1 → Nat :=
  let c2_i32_r0 : BitVec 32 := 2#32
  let v141_r0 : BitVec 32 := Scalar.remui v74_3_r0 c2_i32_r0
  ![v141_r0.toNat]
def k0_off39 (v74_3_r0 : BitVec 32) : Fin 4 → Nat :=
  let c2_i32_r0 : BitVec 32 := 2#32
  let v141_r0 : BitVec 32 := Scalar.remui v74_3_r0 c2_i32_r0
  let c0_i32_128_r0 : BitVec 32 := 0#32
  let c0_i32_129_r0 : BitVec 32 := 0#32
  let c0_i32_130_r0 : BitVec 32 := 0#32
  ![v141_r0.toNat, 0, 0, 0]

def k0_chk7 (i : grid0.Coords) (v74_3_r0 : BitVec 32) : Prop :=
  (∀ (k0_h1 : k0_cond1 i = 1#1), ∀ (k0_h18 : k0_cond18 i = 1#1), ∀ a, (k0_off36 v74_3_r0) a + S1x1x8x4096.size a ≤ S2x1x8x4096.size a) ∧
  (∀ (k0_h1 : k0_cond1 i = 1#1), ∀ (k0_h18 : k0_cond18 i = 1#1), ∀ a, (k0_off38 v74_3_r0) a + S1.size a ≤ S2.size a) ∧
  (∀ (k0_h1 : k0_cond1 i = 1#1), ∀ (k0_h18 : k0_cond18 i = 1#1), ∀ a, (k0_off39 v74_3_r0) a + S1x1x8x4096.size a ≤ S2x1x8x4096.size a)
theorem k0_off36_inb : ∀ (i : grid0.Coords) (v74_3_r0 : BitVec 32) (k0_hw7 : k0_chk7 i v74_3_r0), ∀ (k0_h1 : k0_cond1 i = 1#1), ∀ (k0_h18 : k0_cond18 i = 1#1), ∀ a, (k0_off36 v74_3_r0) a + S1x1x8x4096.size a ≤ S2x1x8x4096.size a := fun i v74_3_r0 k0_hw7 k0_h1 k0_h18 => k0_hw7.1 k0_h1 k0_h18
theorem k0_off38_inb : ∀ (i : grid0.Coords) (v74_3_r0 : BitVec 32) (k0_hw7 : k0_chk7 i v74_3_r0), ∀ (k0_h1 : k0_cond1 i = 1#1), ∀ (k0_h18 : k0_cond18 i = 1#1), ∀ a, (k0_off38 v74_3_r0) a + S1.size a ≤ S2.size a := fun i v74_3_r0 k0_hw7 k0_h1 k0_h18 => k0_hw7.2.1 k0_h1 k0_h18
theorem k0_off39_inb : ∀ (i : grid0.Coords) (v74_3_r0 : BitVec 32) (k0_hw7 : k0_chk7 i v74_3_r0), ∀ (k0_h1 : k0_cond1 i = 1#1), ∀ (k0_h18 : k0_cond18 i = 1#1), ∀ a, (k0_off39 v74_3_r0) a + S1x1x8x4096.size a ≤ S2x1x8x4096.size a := fun i v74_3_r0 k0_hw7 k0_h1 k0_h18 => k0_hw7.2.2 k0_h1 k0_h18

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x200x26 : Shape := ⟨3, ![4096, 200, 26]⟩
abbrev S442 : Shape := ⟨1, ![442]⟩
abbrev S1x1x26x17 : Shape := ⟨4, ![1, 1, 26, 17]⟩
abbrev S4096x200x26x1 : Shape := ⟨4, ![4096, 200, 26, 1]⟩
abbrev S4096x200x26x17 : Shape := ⟨4, ![4096, 200, 26, 17]⟩
abbrev S_ : Shape := ⟨0, ![]⟩
abbrev S17 : Shape := ⟨1, ![17]⟩
abbrev S1x1x1x17 : Shape := ⟨4, ![1, 1, 1, 17]⟩

abbrev nBuf : Space → Nat
  | .hbm => 28
  | .vmem => 0
  | .smem => 0
  | _ => 0

abbrev bufTy : (tb : Table) → Fin (tcTables nBuf tb) → BufTy
  | .hbm, ⟨0, _⟩ => ⟨S4096x200x26, .f32⟩
  | .hbm, ⟨1, _⟩ => ⟨S442, .f32⟩
  | .hbm, ⟨2, _⟩ => ⟨S1x1x26x17, .f32⟩
  | .hbm, ⟨3, _⟩ => ⟨S4096x200x26x1, .f32⟩
  | .hbm, ⟨4, _⟩ => ⟨S4096x200x26x17, .f32⟩
  | .hbm, ⟨5, _⟩ => ⟨S4096x200x26x17, .f32⟩
  | .hbm, ⟨6, _⟩ => ⟨S4096x200x26x17, .i1⟩
  | .hbm, ⟨7, _⟩ => ⟨S_, .i1⟩
  | .hbm, ⟨8, _⟩ => ⟨S4096x200x26, .i1⟩
  | .hbm, ⟨9, _⟩ => ⟨S17, .f32⟩
  | .hbm, ⟨10, _⟩ => ⟨S_, .f32⟩
  | .hbm, ⟨11, _⟩ => ⟨S17, .f32⟩
  | .hbm, ⟨12, _⟩ => ⟨S17, .f32⟩
  | .hbm, ⟨13, _⟩ => ⟨S_, .f32⟩
  | .hbm, ⟨14, _⟩ => ⟨S17, .f32⟩
  | .hbm, ⟨15, _⟩ => ⟨S17, .f32⟩
  | .hbm, ⟨16, _⟩ => ⟨S1x1x1x17, .f32⟩
  | .hbm, ⟨17, _⟩ => ⟨S4096x200x26x17, .f32⟩
  | .hbm, ⟨18, _⟩ => ⟨S4096x200x26x17, .f32⟩
  | .hbm, ⟨19, _⟩ => ⟨S4096x200x26x17, .f32⟩
  | .hbm, ⟨20, _⟩ => ⟨S4096x200x26x17, .i32⟩
  | .hbm, ⟨21, _⟩ => ⟨S_, .f32⟩
  | .hbm, ⟨22, _⟩ => ⟨S_, .i32⟩
  | .hbm, ⟨23, _⟩ => ⟨S4096x200x26, .f32⟩
  | .hbm, ⟨24, _⟩ => ⟨S4096x200x26, .i32⟩
  | .hbm, ⟨25, _⟩ => ⟨S_, .i32⟩
  | .hbm, ⟨26, _⟩ => ⟨S4096x200x26, .i32⟩
  | .hbm, ⟨27, _⟩ => ⟨S4096x200x26, .i32⟩
  | _, _ => ⟨S4096x200x26, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_call0_v0 : Ref sig .tc := ⟨.hbm, 20, rfl⟩
abbrev main_call0_cst : Ref sig .tc := ⟨.hbm, 21, rfl⟩
abbrev main_call0_c : Ref sig .tc := ⟨.hbm, 22, rfl⟩
abbrev main_call0_v1_0 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]
-- ==== Proof.Words.lean ====
/- The control words of the tile program: what its conditions, checks and offsets are at each trip of the pipeline.
   All of them are functions of the tile's two coordinates and the trip, so each fact is decided over all of them. -/
module

public import proofs.«01_k».proof.Proof.Gen.KernelIdeal
public import proofs.«01_k».proof.Proof.Gen.KernelIdeal.Skeleton

set_option maxRecDepth 4096

@[expose] public section

noncomputable section

namespace Cert.Proof.Bucket

open Cert.KernelIdeal Cert.KernelIdeal.Gen
open Idealize.ShloMosaic

/-- The number of the tile at coordinates `i`: its SparseCore times 16 plus its subcore. Tile `n` below 26 works on slot `n`. -/
def tileNo (i : grid0.Coords) : ℕ := (i 1).val + 16 * (i 0).val

/-- The seven words the pipeline carries into trip `t`: the next block to fetch, the block to compute (twice), the block
    whose write-back is awaited next, then the grid position: 0, `t` modulo 25, 0. -/
def stWords (t : ℕ) : BitVec 32 × BitVec 32 × BitVec 32 × BitVec 32 × BitVec 32 × BitVec 32 × BitVec 32 :=
  (BitVec.ofNat 32 (min (t + 1) 25), BitVec.ofNat 32 t, BitVec.ofNat 32 t, BitVec.ofNat 32 (t - 1), 0#32, BitVec.ofNat 32 (t % 25), 0#32)

/-- A tile works exactly when its number is below 26. -/
theorem cond1_iff : ∀ i : grid0.Coords, k0_cond1 i = 1#1 ↔ tileNo i < 26 := by decide +kernel
/-- A working tile starts the fetch of its first block. -/
theorem cond2_of : ∀ i : grid0.Coords, k0_cond1 i = 1#1 → k0_cond2 i = 1#1 := by decide +kernel
/-- A working tile makes 25 trips. -/
theorem trips1 : ∀ i : grid0.Coords, k0_cond1 i = 1#1 → (k0_t1_loop i).trips = 25 := by decide +kernel
/-- The remainder loop makes no trip. -/
theorem trips4 : ∀ i : grid0.Coords, (k0_t4_loop i).trips = 0 := by decide +kernel
/-- Eight rows to a block. -/
theorem trips2 : k0_t2_loop.trips = 8 := by decide +kernel
/-- 256 vectors of 16 to a row. -/
theorem trips3 : k0_t3_loop.trips = 256 := by decide +kernel

/-- Every trip but the last starts the fetch of the next block. -/
theorem cond3_of : ∀ i : grid0.Coords, k0_cond1 i = 1#1 → ∀ t : Fin (k0_t1_loop i).trips, t.val < 24 →
    k0_cond3 i t 0#32 (BitVec.ofNat 32 (t.val % 25)) = 1#1 := by decide +kernel
/-- The last trip starts no fetch. -/
theorem cond3_not : ∀ i : grid0.Coords, k0_cond1 i = 1#1 → ∀ t : Fin (k0_t1_loop i).trips, ¬ t.val < 24 →
    ¬ k0_cond3 i t 0#32 (BitVec.ofNat 32 (t.val % 25)) = 1#1 := by decide +kernel
/-- Every trip waits for its block. -/
theorem cond4_of : ∀ i : grid0.Coords, k0_cond1 i = 1#1 → ∀ t : Fin (k0_t1_loop i).trips,
    k0_cond4 i t 0#32 (BitVec.ofNat 32 (t.val % 25)) = 1#1 := by decide +kernel
/-- Every trip starts the write-back of its block. -/
theorem cond7_of : ∀ i : grid0.Coords, k0_cond1 i = 1#1 → ∀ t : Fin (k0_t1_loop i).trips,
    k0_cond7 i t 0#32 (BitVec.ofNat 32 (t.val % 25)) = 1#1 := by decide +kernel
/-- Every trip but the first waits for the write-back before it. -/
theorem cond9_of : ∀ i : grid0.Coords, k0_cond1 i = 1#1 → ∀ t : Fin (k0_t1_loop i).trips, 0 < t.val →
    k0_cond9 i t 0#32 (BitVec.ofNat 32 (t.val % 25)) = 1#1 := by decide +kernel
/-- The first trip waits for no write-back. -/
theorem cond9_not : ∀ i : grid0.Coords, k0_cond1 i = 1#1 → ∀ t : Fin (k0_t1_loop i).trips, ¬ 0 < t.val →
    ¬ k0_cond9 i t 0#32 (BitVec.ofNat 32 (t.val % 25)) = 1#1 := by decide +kernel
/-- After the loop a working tile waits for the last write-back. -/
theorem cond18_of : ∀ i : grid0.Coords, k0_cond1 i = 1#1 → k0_cond18 i = 1#1 := by decide +kernel

/-- The prologue fetches rows 0 to 7 of the tile's slot. -/
theorem off2_eq : ∀ i : grid0.Coords, k0_cond1 i = 1#1 → k0_off2 i = ![tileNo i, 8 * 0, 0] := by decide +kernel
/-- The fetch a trip starts takes the next eight rows of the tile's slot. -/
theorem off5_eq : ∀ i : grid0.Coords, k0_cond1 i = 1#1 → ∀ t : Fin 25, t.val < 24 →
    k0_off5 i 0#32 (BitVec.ofNat 32 (t.val % 25)) = ![tileNo i, 8 * (t.val + 1), 0] := by decide +kernel
/-- The fetch a trip waits for is of its own eight rows. -/
theorem off8_eq : ∀ i : grid0.Coords, k0_cond1 i = 1#1 → ∀ t : Fin 25,
    k0_off8 i 0#32 (BitVec.ofNat 32 (t.val % 25)) = ![tileNo i, 8 * t.val, 0] := by decide +kernel
/-- The write-back a trip starts goes to its own eight rows. -/
theorem off15_eq : ∀ i : grid0.Coords, k0_cond1 i = 1#1 → ∀ t : Fin 25,
    k0_off15 i 0#32 (BitVec.ofNat 32 (t.val % 25)) = ![tileNo i, 8 * t.val, 0] := by decide +kernel
/-- The write-back a trip waits for is of the eight rows before its own. -/
theorem off18_eq : ∀ i : grid0.Coords, k0_cond1 i = 1#1 → ∀ t : Fin 25, 0 < t.val →
    k0_off18 i 0#32 (BitVec.ofNat 32 (t.val % 25)) = ![tileNo i, 8 * (t.val - 1), 0] := by decide +kernel
/-- The write-back waited for at the end is of the last eight rows. -/
theorem off37_eq : ∀ i : grid0.Coords, k0_cond1 i = 1#1 → k0_off37 i 0#32 0#32 0#32 = ![tileNo i, 8 * 24, 0] := by decide +kernel

/-- The slot of the next block. -/
theorem off4_eq : ∀ t : Fin 25, t.val < 24 → k0_off4 (BitVec.ofNat 32 (min (t.val + 1) 25)) = ![(t.val + 1) % 2, 0, 0, 0] := by decide +kernel
/-- The next block's semaphore. -/
theorem off6_eq : ∀ t : Fin 25, t.val < 24 → k0_off6 (BitVec.ofNat 32 (min (t.val + 1) 25)) = ![(t.val + 1) % 2] := by decide +kernel
/-- The slot of the trip's block. -/
theorem off7_eq : ∀ t : Fin 25, k0_off7 (BitVec.ofNat 32 t.val) = ![t.val % 2, 0, 0, 0] := by decide +kernel
/-- The trip's block's semaphore. -/
theorem off9_eq : ∀ t : Fin 25, k0_off9 (BitVec.ofNat 32 t.val) = ![t.val % 2] := by decide +kernel
/-- The slot the trip reads. -/
theorem off10_eq : ∀ t : Fin 25, k0_off10 (BitVec.ofNat 32 t.val) = ![t.val % 2, 0, 0, 0] := by decide +kernel
/-- The slot the trip writes. -/
theorem off12_eq : ∀ t : Fin 25, k0_off12 (BitVec.ofNat 32 t.val) = ![t.val % 2, 0, 0, 0] := by decide +kernel
/-- The slot the trip writes back. -/
theorem off14_eq : ∀ t : Fin 25, k0_off14 (BitVec.ofNat 32 t.val) = ![t.val % 2, 0, 0, 0] := by decide +kernel
/-- The semaphore of the trip's write-back. -/
theorem off16_eq : ∀ t : Fin 25, k0_off16 (BitVec.ofNat 32 t.val) = ![t.val % 2] := by decide +kernel
/-- The slot of the write-back before the trip's. -/
theorem off17_eq : ∀ t : Fin 25, 0 < t.val → k0_off17 (BitVec.ofNat 32 (t.val - 1)) = ![(t.val + 1) % 2, 0, 0, 0] := by decide +kernel
/-- The semaphore of the write-back before the trip's. -/
theorem off19_eq : ∀ t : Fin 25, 0 < t.val → k0_off19 (BitVec.ofNat 32 (t.val - 1)) = ![(t.val + 1) % 2] := by decide +kernel
/-- The semaphore of the last write-back. -/
theorem off38_eq : k0_off38 24#32 = ![0] := by decide +kernel
/-- The slot of the last write-back. -/
theorem off39_eq : k0_off39 24#32 = ![0, 0, 0, 0] := by decide +kernel

set_option synthInstance.maxHeartbeats 0 in
/-- The first check of a trip holds. -/
theorem chk1_of : ∀ i : grid0.Coords, k0_cond1 i = 1#1 → ∀ t : Fin (k0_t1_loop i).trips,
    k0_chk1 i t (BitVec.ofNat 32 (min (t.val + 1) 25)) (BitVec.ofNat 32 t.val) (BitVec.ofNat 32 t.val) (BitVec.ofNat 32 (t.val - 1))
      0#32 (BitVec.ofNat 32 (t.val % 25)) := by decide +kernel
/-- The second check of a trip holds. -/
theorem chk2_of : ∀ i : grid0.Coords, k0_cond1 i = 1#1 → ∀ t : Fin (k0_t1_loop i).trips, k0_chk2 i t (BitVec.ofNat 32 t.val) := by decide +kernel
/-- The third check of a trip holds. -/
theorem chk3_of : ∀ i : grid0.Coords, k0_cond1 i = 1#1 → ∀ t : Fin (k0_t1_loop i).trips, k0_chk3 i t (BitVec.ofNat 32 t.val) := by decide +kernel
/-- The first check after the loop holds. -/
theorem chk8_of : ∀ i : grid0.Coords, k0_cond1 i = 1#1 → k0_chk8 i 0#32 0#32 0#32 := by decide +kernel
/-- The second check after the loop holds. -/
theorem chk7_of : ∀ i : grid0.Coords, k0_cond1 i = 1#1 → k0_chk7 i 24#32 := by decide +kernel

end Cert.Proof.Bucket

end

end
-- ==== Proof.Views.lean ====
/- The pieces of memory the tile program names, by coordinates: eight-row blocks of a slot of the two arrays in main
   memory, and the two slots of each tile buffer. -/
module

public import proofs.«01_k».proof.Proof.Words
public import Idealize.ShloMosaic.Lib.ValueLayout

set_option maxRecDepth 4096

@[expose] public section

noncomputable section

namespace Cert.Proof.Bucket

open Cert.KernelIdeal Cert.KernelIdeal.Gen
open Idealize.ShloMosaic Idealize.ShloMosaic.ValueIdx

/-- Slot `n` of an array in main memory; no element when `n` is 26 or more. -/
def slabSet (n : ℕ) : Finset S26x200x4096.Idx := Finset.univ.filter fun z => (z 0).val = n
/-- Rows `8u` to `8u + 7` of slot `n` of an array in main memory. -/
def blkSet (n u : ℕ) : Finset S26x200x4096.Idx := Finset.univ.filter fun z => (z 0).val = n ∧ (z 1).val / 8 = u
/-- Slot `s` of a tile buffer. -/
def slotSet (s : ℕ) : Finset S2x1x8x4096.Idx := Finset.univ.filter fun y => (y 0).val = s

/-- The transposed features as the tiles name them. -/
abbrev xM : Memref sig .scVector .hbm S26x200x4096 .f32 := Memref.whole main_v0_scv
/-- The bucket numbers as the tiles name them. -/
abbrev oM : Memref sig .scVector .hbm S26x200x4096 .i32 := Memref.whole main_v1_scv
/-- The tile buffer for fetched blocks. -/
abbrev iM : Memref sig .scVector .vmem S2x1x8x4096 .f32 := Memref.whole cc0_scoped0
/-- The tile buffer for computed blocks. -/
abbrev uM : Memref sig .scVector .vmem S2x1x8x4096 .i32 := Memref.whole cc0_scoped2

/-- A block of a main-memory array, as the program slices it. -/
abbrev blkM {e : EltTy} (M : Memref sig .scVector .hbm S26x200x4096 e) (o : Fin 3 → ℕ) (h : ∀ a, o a + S1x8x4096.size a ≤ S26x200x4096.size a) :
    Memref sig .scVector .hbm S1x8x4096 e :=
  M.slice (Rect.unit (s := S26x200x4096) o S1x8x4096.size h) (fun _ => rfl)
/-- A slot of a tile buffer, as the program slices it. -/
abbrev slotM {e : EltTy} (M : Memref sig .scVector .vmem S2x1x8x4096 e) (o : Fin 4 → ℕ) (h : ∀ a, o a + S1x1x8x4096.size a ≤ S2x1x8x4096.size a) :
    Memref sig .scVector .vmem S1x8x4096 e :=
  (M.slice (Rect.unit (s := S2x1x8x4096) o S1x1x8x4096.size h) (fun _ => rfl)).squeeze S1x8x4096 squeezes_S1x1x8x4096_S1x8x4096
/-- A transfer semaphore of a pair, as the program slices it. -/
abbrev semM (A : DmaSems sig S2) (o : Fin 1 → ℕ) (h : ∀ a, o a + S1.size a ≤ S2.size a) : DmaSems sig S_ :=
  (A.slice (Rect.unit (s := S2) o S1.size h)).squeeze S_ squeezes_S1_S_

theorem mem_blk_rect {n u : ℕ} (h : ∀ a, (![n, 8 * u, 0] : Fin 3 → ℕ) a + S1x8x4096.size a ≤ S26x200x4096.size a) (z : S26x200x4096.Idx) :
    z ∈ (Rect.unit (s := S26x200x4096) ![n, 8 * u, 0] S1x8x4096.size h).set ↔ z ∈ blkSet n u := by
  rw [Rect.mem_set_unit, blkSet, Finset.mem_filter]
  have h2 : (z 2).val < 4096 := (z 2).isLt
  constructor
  · intro H
    have a0 : n ≤ (z 0).val ∧ (z 0).val < n + 1 := H 0
    have a1 : 8 * u ≤ (z 1).val ∧ (z 1).val < 8 * u + 8 := H 1
    exact ⟨Finset.mem_univ _, by omega, by omega⟩
  · rintro ⟨-, e0, e1⟩ a
    fin_cases a
    · show n ≤ (z 0).val ∧ (z 0).val < n + 1; omega
    · show 8 * u ≤ (z 1).val ∧ (z 1).val < 8 * u + 8; omega
    · show 0 ≤ (z 2).val ∧ (z 2).val < 0 + 4096; omega

theorem mem_slot_rect {s : ℕ} (h : ∀ a, (![s, 0, 0, 0] : Fin 4 → ℕ) a + S1x1x8x4096.size a ≤ S2x1x8x4096.size a) (y : S2x1x8x4096.Idx) :
    y ∈ (Rect.unit (s := S2x1x8x4096) ![s, 0, 0, 0] S1x1x8x4096.size h).set ↔ y ∈ slotSet s := by
  rw [Rect.mem_set_unit, slotSet, Finset.mem_filter]
  have h1 : (y 1).val < 1 := (y 1).isLt
  have h2 : (y 2).val < 8 := (y 2).isLt
  have h3 : (y 3).val < 4096 := (y 3).isLt
  constructor
  · intro H
    have a0 : s ≤ (y 0).val ∧ (y 0).val < s + 1 := H 0
    exact ⟨Finset.mem_univ _, by omega⟩
  · rintro ⟨-, e0⟩ a
    fin_cases a
    · show s ≤ (y 0).val ∧ (y 0).val < s + 1; omega
    · show 0 ≤ (y 1).val ∧ (y 1).val < 0 + 1; omega
    · show 0 ≤ (y 2).val ∧ (y 2).val < 0 + 8; omega
    · show 0 ≤ (y 3).val ∧ (y 3).val < 0 + 4096; omega

/-- The elements of a block of the features. -/
theorem set_xBlk {n u : ℕ} (h) : (blkM xM ![n, 8 * u, 0] h).view.set = blkSet n u := by
  show ((View.whole main_v0_scv).slice _).set = _
  rw [View.set_slice_whole]; exact Finset.ext (mem_blk_rect h)
/-- The elements of a block of the bucket numbers. -/
theorem set_oBlk {n u : ℕ} (h) : (blkM oM ![n, 8 * u, 0] h).view.set = blkSet n u := by
  show ((View.whole main_v1_scv).slice _).set = _
  rw [View.set_slice_whole]; exact Finset.ext (mem_blk_rect h)
/-- The elements of a slot of the fetch buffer. -/
theorem set_iSlot {s : ℕ} (h) : (slotM iM ![s, 0, 0, 0] h).view.set = slotSet s := by
  rw [Memref.set_view_squeeze]
  show ((View.whole cc0_scoped0).slice _).set = _
  rw [View.set_slice_whole]; exact Finset.ext (mem_slot_rect h)
/-- The elements of a slot of the computed buffer. -/
theorem set_uSlot {s : ℕ} (h) : (slotM uM ![s, 0, 0, 0] h).view.set = slotSet s := by
  rw [Memref.set_view_squeeze]
  show ((View.whole cc0_scoped2).slice _).set = _
  rw [View.set_slice_whole]; exact Finset.ext (mem_slot_rect h)

/-- Dropping the unit axis of a slot's block keeps the other coordinates. -/
theorem squeeze_ix (j : S1x8x4096.Idx) :
    Shape.reshapeEquiv (Shape.Squeezes.numel_eq squeezes_S1x1x8x4096_S1x8x4096) j = (ix4 (0 : Fin 1) (j 0) (j 1) (j 2) : S1x1x8x4096.Idx) := by
  have : j = (ix3 (j 0) (j 1) (j 2) : S1x8x4096.Idx) := by
    funext a; fin_cases a <;> rfl
  conv_lhs => rw [this]
  exact reshapeEquiv_ix3_1abc _ _ _ _

/-- Where index `j` of a block lies in the array: slot `n`, row `8u + j₁`, lane `j₂`. -/
theorem blk_ix {n u : ℕ} (h : ∀ a, (![n, 8 * u, 0] : Fin 3 → ℕ) a + S1x8x4096.size a ≤ S26x200x4096.size a) (j : S1x8x4096.Idx) :
    let z : S26x200x4096.Idx := (Rect.unit (s := S26x200x4096) ![n, 8 * u, 0] S1x8x4096.size h).emb j
    (z 0).val = n ∧ (z 1).val = 8 * u + (j 1).val ∧ (z 2).val = (j 2).val := by
  have h0 : (j 0).val < 1 := (j 0).isLt
  refine ⟨?_, ?_, ?_⟩
  · show n + 1 * (j 0).val = n; omega
  · show 8 * u + 1 * (j 1).val = _; omega
  · show 0 + 1 * (j 2).val = _; omega

/-- Where index `j` of a slot lies in the tile buffer: slot `s`, row `j₁`, lane `j₂`. -/
theorem slot_ix {s : ℕ} (h : ∀ a, (![s, 0, 0, 0] : Fin 4 → ℕ) a + S1x1x8x4096.size a ≤ S2x1x8x4096.size a) (j : S1x8x4096.Idx) :
    let y : S2x1x8x4096.Idx := (Rect.unit (s := S2x1x8x4096) ![s, 0, 0, 0] S1x1x8x4096.size h).emb
      (Shape.reshapeEquiv (Shape.Squeezes.numel_eq squeezes_S1x1x8x4096_S1x8x4096) j)
    (y 0).val = s ∧ (y 2).val = (j 1).val ∧ (y 3).val = (j 2).val := by
  have h0 : (j 0).val < 1 := (j 0).isLt
  rw [squeeze_ix]
  refine ⟨?_, ?_, ?_⟩
  · show s + 1 * (0 : Fin 1).val = s; simp
  · show 0 + 1 * (j 1).val = _; omega
  · show 0 + 1 * (j 2).val = _; omega

end Cert.Proof.Bucket

end

end
-- ==== Proof.Setup.lean ====
/- The program as the launch runs it, the tile's places and semaphores, and what the tile computes, element by element. -/
module

public import proofs.«01_k».proof.Defs
public import proofs.«01_k».proof.Proof.Views
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof.Bucket

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The launch's set-up -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL
abbrev EC : UEmb Counters (MT nD τ sig (HIx 1) (Elt F) ℕ UU ℕ) := countersEmb

/-! ## The tile's thread, places and semaphores -/

/-- The SparseCore of the tile at coordinates `i`. -/
abbrev cV (i : grid0.Coords) : Fin τ.nSC := (i 0).castLE hcore0
/-- The subcore of the tile at coordinates `i`. -/
abbrev jV (i : grid0.Coords) : Fin τ.nSub := (i 1).castLE hsub0
/-- The thread of the tile at coordinates `i`. -/
abbrev VT (d : Dev nD) (i : grid0.Coords) : Thread nD τ := V d (cV i) (jV i)

/-- The transposed features. -/
abbrev xLoc (d : Dev nD) : Loc nD τ sig := (SparseCore.T d).loc main_v0
/-- The bucket numbers, slot by slot. -/
abbrev oLoc (d : Dev nD) : Loc nD τ sig := (SparseCore.T d).loc main_v1
/-- The tile's fetch buffer. -/
abbrev iLoc (d : Dev nD) (i : grid0.Coords) : Loc nD τ sig := (VT d i).loc cc0_scoped0
/-- The tile's computed buffer. -/
abbrev uLoc (d : Dev nD) (i : grid0.Coords) : Loc nD τ sig := (VT d i).loc cc0_scoped2

/-- The semaphore of the fetches into slot `s`. -/
def inSem (s : ℕ) : DmaSem sig := ⟨s % 2, lt_of_lt_of_le (Nat.mod_lt _ (by decide)) (by decide : 2 ≤ 4)⟩
/-- The semaphore of the write-backs from slot `s`. -/
def outSem (s : ℕ) : DmaSem sig := ⟨2 + s % 2, by show _ < 4; omega⟩

/-- Place `k` of an array of two semaphores from `base` is semaphore `base + k` of the pool. -/
theorem sem_val {base : ℕ} (hb : base + S2.numel ≤ 4) {k : ℕ} (h) : (semM (SemArray.consecutive base S2 hb) ![k] h).sem.val = base + k := by
  show base + (S2.rowMajor ((Rect.unit (s := S2) ![k] S1.size h).emb (Shape.reshapeEquiv _ _))).val = base + k
  rw [show (S2.rowMajor _).val = _ from Shape.rowMajor_val_one _]
  generalize (Shape.reshapeEquiv (s := S1) (s' := S_) _ _) = j
  have h0 : (j 0).val = 0 := Nat.lt_one_iff.mp (j 0).isLt
  rw [Rect.emb_apply]
  show base + (k + 1 * (j 0).val) = base + k
  rw [h0]; rfl

theorem sem_in {s : ℕ} (hs : s < 2) (h) : (semM cc0_scoped1 ![s] h).sem = inSem s :=
  Fin.ext ((sem_val hcc0_scoped1 h).trans (by show 0 + s = s % 2; omega))
theorem sem_out {s : ℕ} (hs : s < 2) (h) : (semM cc0_scoped3 ![s] h).sem = outSem s :=
  Fin.ext ((sem_val hcc0_scoped3 h).trans (by show 2 + s = 2 + s % 2; omega))

/-! ## What the tile computes -/

variable [FloatOps F]

/-- The bucket number of a feature: sixteen times it, truncated, plus one. -/
def bkt (v : F .f32) : BitVec 32 := IntOp.addi (FloatOps.fptosi 32 (FloatOps.mulf v (Scalar.ofBits .f32 0x41800000#32))) 1#32

/-- The bucket numbers of the features `X`, element by element. -/
def bucketed {d : Dev nD} (X : Buf (Elt F) (xLoc d)) : Buf (Elt F) (oLoc d) := fun z => bkt (X z)

/-- Slot `s` of the fetch buffer's contents `A` is block `u` of slot `n` of the features `X`. -/
def Fetched {d : Dev nD} {i : grid0.Coords} (X : Buf (Elt F) (xLoc d)) (n u s : ℕ) (A : Buf (Elt F) (iLoc d i)) : Prop :=
  ∀ (y : S2x1x8x4096.Idx) (z : S26x200x4096.Idx), (y 0).val = s → (z 0).val = n → (z 1).val = 8 * u + (y 2).val → (z 2).val = (y 3).val →
    (A y : F .f32) = X z

/-- Slot `s` of the computed buffer's contents `B` holds the bucket numbers of block `u` of slot `n` of the features `X`,
    in the rows above row `r` and in the first `l` lanes of row `r`. -/
def Computed {d : Dev nD} {i : grid0.Coords} (X : Buf (Elt F) (xLoc d)) (n u s r l : ℕ) (B : Buf (Elt F) (uLoc d i)) : Prop :=
  ∀ (y : S2x1x8x4096.Idx) (z : S26x200x4096.Idx), (y 0).val = s → (z 0).val = n → (z 1).val = 8 * u + (y 2).val → (z 2).val = (y 3).val →
    ((y 2).val < r ∨ ((y 2).val = r ∧ (y 3).val < l)) → (B y : BitVec 32) = bkt (X z : F .f32)

/-- Block `u` of slot `n` of the output's contents `f` holds the bucket numbers of the features `X`. -/
def Written {d : Dev nD} (X : Buf (Elt F) (xLoc d)) (n u : ℕ) (f : Buf (Elt F) (oLoc d)) : Prop :=
  ∀ z ∈ blkSet n u, f z = bucketed X z

end Cert.Proof.Bucket

end

end
-- ==== Proof.Copies.lean ====
/- The tile program's four kinds of step on the transfers: starting the fetch of a block, waiting for it, starting the
   write-back of a block, waiting for that. Each is stated over pieces of memory named by coordinates and carries the
   values the transfer delivers. -/
module

public import proofs.«01_k».proof.Proof.Setup

@[expose] public section

set_option maxRecDepth 4096

noncomputable section

namespace Cert.Proof.Bucket

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (d : Dev nD) (i : grid0.Coords) (X : Buf (Elt F) (xLoc d))

/-- Block `u` of slot `n` of the features, read-only contents `X`. -/
abbrev xBlk (n u : ℕ) : sProp 𝕄 := xLoc d ↦[blkSet n u]{fullShare} X
/-- Block `u` of slot `n` of the bucket numbers, at `f`. -/
abbrev oBlk (n u : ℕ) (f : Buf (Elt F) (oLoc d)) : sProp 𝕄 := oLoc d ↦[blkSet n u]{fullShare} f
/-- Slot `s` of the fetch buffer, at `A`. -/
abbrev iSlot (s : ℕ) (A : Buf (Elt F) (iLoc d i)) : sProp 𝕄 := iLoc d i ↦[slotSet s]{fullShare} A
/-- Slot `s` of the computed buffer, at `B`. -/
abbrev uSlot (s : ℕ) (B : Buf (Elt F) (uLoc d i)) : sProp 𝕄 := uLoc d i ↦[slotSet s]{fullShare} B
/-- Slot `s` of the fetch buffer holding block `u`. -/
abbrev iFull (n u s : ℕ) : sProp 𝕄 := iprop(∃ A, ⌜Fetched X n u s A⌝ ∗ iSlot d i s A)
/-- What the tile owes, and waits it has made beyond `W`, all on its own counters. -/
abbrev Owing (O : CellTallies nD τ sig (HIx 1)) (W : Waits sig (HIx 1)) : sProp 𝕄 :=
  iprop(∃ W', ⌜∀ p ∈ W', p ∈ W ∨ p.2 = none⌝ ∗ owes (VT d i) O W')

theorem inb_i0 : ∀ a, (![0, 0, 0, 0] : Fin 4 → ℕ) a + S1x1x8x4096.size a ≤ S2x1x8x4096.size a := by decide
theorem inb_o0 : ∀ a, (![0, 0, 0] : Fin 3 → ℕ) a + S1x8x4096.size a ≤ S26x200x4096.size a := by decide
/-- What a fetch credits its semaphore. -/
abbrev inN : ℕ := (slotM iM ![0, 0, 0, 0] inb_i0).view.dmaCredit
/-- What a write-back credits its semaphore. -/
abbrev outN : ℕ := (blkM oM ![0, 0, 0] inb_o0).view.dmaCredit

/-- A fetch of block `u` into slot `s` on its way. -/
abbrev Fetching (n u s : ℕ) : sProp 𝕄 :=
  Transfers.Flight EC (VT d i) (.dma (inSem s)) (default : HIx 1) inN iprop(iFull d i X n u s ∗ xBlk d X n u)
/-- A write-back of block `u` from slot `s` on its way. -/
abbrev Writing (n u s : ℕ) : sProp 𝕄 :=
  Transfers.Flight EC (VT d i) (.dma (outSem s)) (default : HIx 1) outN iprop(oBlk d n u (bucketed X) ∗ ∃ B, uSlot d i s B)

theorem pts_xBlk {n u : ℕ} (h) (f : Buf (Elt F) (xLoc d)) :
    ((blkM xM ![n, 8 * u, 0] h).view.loc (VT d i) ↦[(blkM xM ![n, 8 * u, 0] h).view.set]{fullShare} f : sProp 𝕄) = xLoc d ↦[blkSet n u]{fullShare} f := by
  rw [set_xBlk]
theorem pts_oBlk {n u : ℕ} (h) (f : Buf (Elt F) (oLoc d)) :
    ((blkM oM ![n, 8 * u, 0] h).view.loc (VT d i) ↦[(blkM oM ![n, 8 * u, 0] h).view.set]{fullShare} f : sProp 𝕄) = oLoc d ↦[blkSet n u]{fullShare} f := by
  rw [set_oBlk]
theorem pts_iSlot {s : ℕ} (h) (f : Buf (Elt F) (iLoc d i)) :
    ((slotM iM ![s, 0, 0, 0] h).view.loc (VT d i) ↦[(slotM iM ![s, 0, 0, 0] h).view.set]{fullShare} f : sProp 𝕄) = iSlot d i s f := by
  rw [set_iSlot]
theorem pts_uSlot {s : ℕ} (h) (f : Buf (Elt F) (uLoc d i)) :
    ((slotM uM ![s, 0, 0, 0] h).view.loc (VT d i) ↦[(slotM uM ![s, 0, 0, 0] h).view.set]{fullShare} f : sProp 𝕄) = uSlot d i s f := by
  rw [set_uSlot]

/-- What a fetch leaves in its slot: at index `j` of the slot, the feature at index `j` of the block. -/
theorem fetched_write {n u s : ℕ} (h3) (h4) (A : Buf (Elt F) (iLoc d i)) :
    Fetched (i := i) X n u s ((slotM iM ![s, 0, 0, 0] h4).view.write (Elt F) A
      ((ReadAs.same : ReadAs (Elt F) S1x8x4096 .f32 S1x8x4096 .f32).apply ((blkM xM ![n, 8 * u, 0] h3).view.read (Elt F) X)) Finset.univ) := by
  intro y z hy0 hz0 hz1 hz2
  have hy : y ∈ (slotM iM ![s, 0, 0, 0] h4).view.set := by
    rw [set_iSlot, slotSet, Finset.mem_filter]; exact ⟨Finset.mem_univ _, hy0⟩
  obtain ⟨j, -, rfl⟩ := Finset.mem_map.mp hy
  refine (View.write_emb_of_mem (v := (slotM iM ![s, 0, 0, 0] h4).view) A _ (Finset.mem_univ j)).trans ?_
  have hs := slot_ix h4 j
  have hb := blk_ix h3 j
  refine (cast_eq _ _).trans ?_
  show cast _ (X _) = _
  refine (cast_eq _ _).trans ?_
  congr 1
  funext a
  apply Fin.ext
  fin_cases a
  · exact hb.1.trans hz0.symm
  · exact hb.2.1.trans ((congrArg (8 * u + ·) hs.2.1.symm).trans hz1.symm)
  · exact hb.2.2.trans (hs.2.2.symm.trans hz2.symm)

/-- What a write-back leaves in its block is the bucket numbers, when its slot holds them. -/
theorem computed_write {n u s : ℕ} (h3 : ∀ a, (![n, 8 * u, 0] : Fin 3 → ℕ) a + S1x8x4096.size a ≤ S26x200x4096.size a)
    (h4 : ∀ a, (![s, 0, 0, 0] : Fin 4 → ℕ) a + S1x1x8x4096.size a ≤ S2x1x8x4096.size a) (B : Buf (Elt F) (uLoc d i)) (f : Buf (Elt F) (oLoc d)) (hB : Computed X n u s 8 0 B) :
    Written X n u ((blkM oM ![n, 8 * u, 0] h3).view.write (Elt F) f
      ((ReadAs.same : ReadAs (Elt F) S1x8x4096 .i32 S1x8x4096 .i32).apply ((slotM uM ![s, 0, 0, 0] h4).view.read (Elt F) B)) Finset.univ) := by
  intro z hz
  rw [← set_oBlk h3] at hz
  obtain ⟨j, -, rfl⟩ := Finset.mem_map.mp hz
  refine (View.write_emb_of_mem (v := (blkM oM ![n, 8 * u, 0] h3).view) f _ (Finset.mem_univ j)).trans ?_
  have hs := slot_ix h4 j
  have hb := blk_ix h3 j
  refine (cast_eq _ _).trans ?_
  show cast _ (B _) = _
  refine (cast_eq _ _).trans ?_
  refine hB _ _ hs.1 hb.1 (hb.2.1.trans (congrArg (8 * u + ·) hs.2.1.symm)) (hb.2.2.trans hs.2.2.symm) (.inl ?_)
  exact lt_of_eq_of_lt hs.2.1 (j 1).isLt

variable {α : Type}

/-- Starting a fetch: the block of the features, a slot of the fetch buffer and the slot's semaphore at zero go into it. -/
theorem fetch_start (Q : α → sProp 𝕄) {n u s : ℕ} (hs : s < 2) {o3 : Fin 3 → ℕ} {o4 : Fin 4 → ℕ} {o1 : Fin 1 → ℕ} (e3 : o3 = ![n, 8 * u, 0]) (e4 : o4 = ![s, 0, 0, 0])
    (e1 : o1 = ![s]) (h3) (h4) (h1) (hw hw' ht) (A : Buf (Elt F) (iLoc d i)) (k : PUnit → Prog (TpuEff nD τ sig (Elt F) Λ₀ (VT d i).2) α) :
    iprop(xBlk d X n u ∗ iSlot d i s A ∗ semVal (VT d i, .dma (inSem s)) 0)
      ⊢ iprop((Fetching d i X n u s -∗ wp frame (wpE (defs₀ (F := F)) 𝒱₀ (VT d i) none) Set.univ (k ⟨⟩) Q)
          -∗ wp frame (wpE (defs₀ (F := F)) 𝒱₀ (VT d i) none) Set.univ
              (.op (.enqueueDma (blkM xM o3 h3) (.here (slotM iM o4 h4)) (.dma (semM cc0_scoped1 o1 h1).sem) hw hw' ht) k) Q) := by
  subst e3 e4 e1
  have hE : (semM cc0_scoped1 ![s] h1).sem = inSem s := sem_in hs h1
  iintro ⟨Hx, Hi, Hs⟩ Hk
  ihave Hx' := (Entails.of_eq (pts_xBlk d i h3 X).symm) $$ Hx
  ihave Hi' := (Entails.of_eq (pts_iSlot d i h4 A).symm) $$ Hi
  iapply (Transfers.wp_dmaLocal EC 𝒱₀ (VT d i) none (src := blkM xM ![n, 8 * u, 0] h3) (dst := slotM iM ![s, 0, 0, 0] h4)
    (sm := .dma (semM cc0_scoped1 ![s] h1).sem) (default : HIx 1) inN rfl (View.dmaCredit_pos _ (by decide)) (Finset.Subset.refl _)) $$ [Hx' Hi' Hs]
  · isplitl [Hx']; · iexact Hx'
    isplitl [Hi']; · iexact Hi'
    rw [hE]; iexact Hs
  iintro HF
  iapply Hk
  rw [hE]
  iapply (Transfers.Flight_mono EC (VT d i) ?_) $$ HF
  iintro ⟨H1, H2⟩
  isplitl [H1]
  · iexists _
    isplitr
    · ipureintro; exact fetched_write d i X h3 h4 A
    iapply (Entails.of_eq (pts_iSlot d i h4 _)); iexact H1
  iapply (Entails.of_eq (pts_xBlk d i h3 X)); iexact H2

/-- Waiting for a fetch hands back the block of the features and the slot holding it, the semaphore at zero. -/
theorem fetch_wait (Q : α → sProp 𝕄) (O : CellTallies nD τ sig (HIx 1)) (W : Waits sig (HIx 1)) {n u s : ℕ} (hs : s < 2) {o4 : Fin 4 → ℕ} {o1 : Fin 1 → ℕ}
    (e1 : o1 = ![s]) (src : Memref sig .scVector .hbm S1x8x4096 .f32) (h4) (h1) (hw hw')
    (k : PUnit → Prog (TpuEff nD τ sig (Elt F) Λ₀ (VT d i).2) α) :
    iprop(Transfers.MayWaits (VT d i) (default : HIx 1) O ∗ Fetching d i X n u s ∗ Owing d i O W)
      ⊢ iprop((iprop(iFull d i X n u s ∗ xBlk d X n u ∗ semVal (VT d i, .dma (inSem s)) 0 ∗ Owing d i O W)
            -∗ wp frame (wpE (defs₀ (F := F)) 𝒱₀ (VT d i) none) Set.univ (k ⟨⟩) Q)
          -∗ wp frame (wpE (defs₀ (F := F)) 𝒱₀ (VT d i) none) Set.univ
              (.op (.waitDma2 (semM cc0_scoped1 o1 h1).sem src (slotM iM o4 h4) hw hw') k) Q) := by
  subst e1
  rw [sem_in hs h1]
  iintro ⟨#Hmw, HF, ⟨%W', %hW', HO⟩⟩ Hk
  iapply (Transfers.wp_waitLocalO EC 𝒱₀ (VT d i) none (srcw := src) (dstw := slotM iM o4 h4) (default : HIx 1) (N := inN) rfl) $$ [HF HO]
  · isplitl [HF]; · iexact HF
    isplitl [HO]; · iexact HO
    iapply (Transfers.MayWaits.elim (c := VT d i) (SemLoc.dma (inSem s))); iexact Hmw
  iintro ⟨⟨HA, HX⟩, HS, HO⟩
  iapply Hk
  isplitl [HA]; · iexact HA
  isplitl [HX]; · iexact HX
  isplitl [HS]; · iexact HS
  iexists (insert (SemLoc.dma (inSem s), (default : HIx 1)) W')
  isplitr
  · ipureintro
    intro p hp
    rcases Finset.mem_insert.mp hp with hp | hp
    · exact .inr (congrArg Prod.snd hp)
    · exact hW' p hp
  iexact HO

/-- Starting a write-back: a slot holding a block's bucket numbers, the block of the output and the slot's semaphore at zero
    go into it. -/
theorem write_start (Q : α → sProp 𝕄) {n u s : ℕ} (hs : s < 2) {o3 : Fin 3 → ℕ} {o4 : Fin 4 → ℕ} {o1 : Fin 1 → ℕ} (e3 : o3 = ![n, 8 * u, 0]) (e4 : o4 = ![s, 0, 0, 0])
    (e1 : o1 = ![s]) (h3) (h4) (h1) (hw hw' ht) (B : Buf (Elt F) (uLoc d i)) (hB : Computed X n u s 8 0 B) (f : Buf (Elt F) (oLoc d))
    (k : PUnit → Prog (TpuEff nD τ sig (Elt F) Λ₀ (VT d i).2) α) :
    iprop(oBlk d n u f ∗ uSlot d i s B ∗ semVal (VT d i, .dma (outSem s)) 0)
      ⊢ iprop((Writing d i X n u s -∗ wp frame (wpE (defs₀ (F := F)) 𝒱₀ (VT d i) none) Set.univ (k ⟨⟩) Q)
          -∗ wp frame (wpE (defs₀ (F := F)) 𝒱₀ (VT d i) none) Set.univ
              (.op (.enqueueDma (slotM uM o4 h4) (.here (blkM oM o3 h3)) (.dma (semM cc0_scoped3 o1 h1).sem) hw hw' ht) k) Q) := by
  subst e3 e4 e1
  have hE : (semM cc0_scoped3 ![s] h1).sem = outSem s := sem_out hs h1
  iintro ⟨Ho, Hu, Hs⟩ Hk
  ihave Ho' := (Entails.of_eq (pts_oBlk d i h3 f).symm) $$ Ho
  ihave Hu' := (Entails.of_eq (pts_uSlot d i h4 B).symm) $$ Hu
  iapply (Transfers.wp_dmaLocal EC 𝒱₀ (VT d i) none (dst := blkM oM ![n, 8 * u, 0] h3) (src := slotM uM ![s, 0, 0, 0] h4)
    (sm := .dma (semM cc0_scoped3 ![s] h1).sem) (default : HIx 1) outN rfl (View.dmaCredit_pos _ (by decide)) (Finset.Subset.refl _)) $$ [Ho' Hu' Hs]
  · isplitl [Hu']; · iexact Hu'
    isplitl [Ho']; · iexact Ho'
    rw [hE]; iexact Hs
  iintro HF
  iapply Hk
  rw [hE]
  iapply (Transfers.Flight_mono EC (VT d i) ?_) $$ HF
  iintro ⟨H1, H2⟩
  isplitl [H1]
  · ihave H1' := (Entails.of_eq (pts_oBlk d i h3 _)) $$ H1
    iapply (Entails.of_eq (pointsTo_congr (show ∀ z ∈ blkSet n u, _ = _ from computed_write d i X h3 h4 B f hB)))
    iexact H1'
  iexists _
  iapply (Entails.of_eq (pts_uSlot d i h4 B)); iexact H2

/-- Waiting for a write-back hands back the block at the bucket numbers and the slot, the semaphore at zero. -/
theorem write_wait (Q : α → sProp 𝕄) (O : CellTallies nD τ sig (HIx 1)) (W : Waits sig (HIx 1)) {n u s : ℕ} (hs : s < 2) {o3 : Fin 3 → ℕ} {o1 : Fin 1 → ℕ}
    (e1 : o1 = ![s]) (src : Memref sig .scVector .vmem S1x8x4096 .i32) (h3) (h1) (hw hw')
    (k : PUnit → Prog (TpuEff nD τ sig (Elt F) Λ₀ (VT d i).2) α) :
    iprop(Transfers.MayWaits (VT d i) (default : HIx 1) O ∗ Writing d i X n u s ∗ Owing d i O W)
      ⊢ iprop((iprop(oBlk d n u (bucketed X) ∗ (∃ B, uSlot d i s B) ∗ semVal (VT d i, .dma (outSem s)) 0 ∗ Owing d i O W)
            -∗ wp frame (wpE (defs₀ (F := F)) 𝒱₀ (VT d i) none) Set.univ (k ⟨⟩) Q)
          -∗ wp frame (wpE (defs₀ (F := F)) 𝒱₀ (VT d i) none) Set.univ
              (.op (.waitDma2 (semM cc0_scoped3 o1 h1).sem src (blkM oM o3 h3) hw hw') k) Q) := by
  subst e1
  rw [sem_out hs h1]
  iintro ⟨#Hmw, HF, ⟨%W', %hW', HO⟩⟩ Hk
  iapply (Transfers.wp_waitLocalO EC 𝒱₀ (VT d i) none (srcw := src) (dstw := blkM oM o3 h3) (default : HIx 1) (N := outN) rfl) $$ [HF HO]
  · isplitl [HF]; · iexact HF
    isplitl [HO]; · iexact HO
    iapply (Transfers.MayWaits.elim (c := VT d i) (SemLoc.dma (outSem s))); iexact Hmw
  iintro ⟨⟨HA, HX⟩, HS, HO⟩
  iapply Hk
  isplitl [HA]; · iexact HA
  isplitl [HX]; · iexact HX
  isplitl [HS]; · iexact HS
  iexists (insert (SemLoc.dma (outSem s), (default : HIx 1)) W')
  isplitr
  · ipureintro
    intro p hp
    rcases Finset.mem_insert.mp hp with hp | hp
    · exact .inr (congrArg Prod.snd hp)
    · exact hW' p hp
  iexact HO

end Cert.Proof.Bucket

end

end
-- ==== Proof.Compute.lean ====
/- The two loops that compute a block: sixteen lanes at a time, the bucket numbers of the fetched slot go to the computed
   slot. -/
module

public import proofs.«01_k».proof.Proof.Copies

@[expose] public section

set_option maxRecDepth 4096

noncomputable section

namespace Cert.Proof.Bucket

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (d : Dev nD) (i : grid0.Coords) (X : Buf (Elt F) (xLoc d))

/-- The stored vector is the bucket numbers of the loaded one, lane by lane. -/
theorem pay_apply (v : Vec F S1x1x16 .f32) (x : S1x1x16.Idx) : k0_pay1 v x = bkt (v x : F .f32) := by
  show bkt (v (Shape.reshapeEquiv _ (Shape.reshapeEquiv _ x)) : F .f32) = _
  rw [Shape.reshapeEquiv_reshapeEquiv, Shape.reshapeEquiv_self]

/-- Sixteen lanes stored: the computed slot holds the bucket numbers sixteen lanes further. -/
theorem computed_lanes {n u s r l : ℕ} (h10 : ∀ a, (![s, 0, 0, 0] : Fin 4 → ℕ) a + S1x1x8x4096.size a ≤ S2x1x8x4096.size a)
    (h12 : ∀ a, (![s, 0, 0, 0] : Fin 4 → ℕ) a + S1x1x8x4096.size a ≤ S2x1x8x4096.size a)
    (h11 : ∀ a, (![0, r, 16 * l] : Fin 3 → ℕ) a + S1x1x16.size a ≤ S1x8x4096.size a)
    (h13 : ∀ a, (![0, r, 16 * l] : Fin 3 → ℕ) a + S1x1x16.size a ≤ S1x8x4096.size a)
    (A : Buf (Elt F) (iLoc d i)) (B : Buf (Elt F) (uLoc d i)) (hA : Fetched X n u s A) (hB : Computed X n u s r (16 * l) B) :
    Computed (i := i) X n u s r (16 * (l + 1)) (((slotM uM ![s, 0, 0, 0] h12).access (Rect.unit (s := S1x8x4096) ![0, r, 16 * l] S1x1x16.size h13)).write (Elt F) B
      (k0_pay1 ((slotM iM ![s, 0, 0, 0] h10).view.readAt (Elt F) (Rect.unit (s := S1x8x4096) ![0, r, 16 * l] S1x1x16.size h11).toLoadRect A)) Finset.univ) := by
  intro y z hy0 hz0 hz1 hz2 hr
  have hy : y ∈ (slotM uM ![s, 0, 0, 0] h12).view.set := by
    rw [set_uSlot, slotSet, Finset.mem_filter]; exact ⟨Finset.mem_univ _, hy0⟩
  obtain ⟨j, -, rfl⟩ := Finset.mem_map.mp hy
  have hs : ((slotM uM ![s, 0, 0, 0] h12).view.emb j 2).val = (j 1).val ∧ ((slotM uM ![s, 0, 0, 0] h12).view.emb j 3).val = (j 2).val := (slot_ix h12 j).2
  have hj0 : (j 0).val < 1 := (j 0).isLt
  by_cases hj : j ∈ (Rect.unit (s := S1x8x4096) ![0, r, 16 * l] S1x1x16.size h13).set
  · rw [← Rect.map_emb_univ] at hj
    obtain ⟨x, -, rfl⟩ := Finset.mem_map.mp hj
    refine (View.write_emb_of_mem (v := (slotM uM ![s, 0, 0, 0] h12).access (Rect.unit (s := S1x8x4096) ![0, r, 16 * l] S1x1x16.size h13)) B _ (Finset.mem_univ x)).trans ?_
    refine (cast_eq _ _).trans ((pay_apply _ _).trans (congrArg bkt ?_))
    exact (cast_eq rfl _).trans (hA ((slotM iM ![s, 0, 0, 0] h10).view.emb ((Rect.unit (s := S1x8x4096) ![0, r, 16 * l] S1x1x16.size h11).emb x)) z hy0 hz0 hz1 hz2)
  · refine (View.write_of_not_mem (v := (slotM uM ![s, 0, 0, 0] h12).access (Rect.unit (s := S1x8x4096) ![0, r, 16 * l] S1x1x16.size h13)) B _ _ ?_).trans ?_
    · intro hm
      obtain ⟨x, -, hx⟩ := Finset.mem_map.mp hm
      have hx' : (Rect.unit (s := S1x8x4096) ![0, r, 16 * l] S1x1x16.size h13).emb x = j := (slotM uM ![s, 0, 0, 0] h12).view.emb.injective hx
      exact hj (by rw [← Rect.map_emb_univ]; exact Finset.mem_map.mpr ⟨x, Finset.mem_univ _, hx'⟩)
    · refine hB _ z hy0 hz0 hz1 hz2 ?_
      rw [hs.1, hs.2] at hr ⊢
      rcases hr with hr | ⟨hr, hl⟩
      · exact .inl hr
      · refine .inr ⟨hr, ?_⟩
        by_contra hlt
        refine hj (Rect.mem_set_unit.mpr fun a => ?_)
        fin_cases a
        · show 0 ≤ (j 0).val ∧ (j 0).val < 0 + 1; omega
        · show r ≤ (j 1).val ∧ (j 1).val < r + 1; omega
        · show 16 * l ≤ (j 2).val ∧ (j 2).val < 16 * l + 16; omega

/-- A full row counts as the next row's start. -/
theorem computed_row {n u s r : ℕ} {B : Buf (Elt F) (uLoc d i)} (hB : Computed X n u s r (16 * 256) B) : Computed X n u s (r + 1) (16 * 0) B := by
  intro y z hy0 hz0 hz1 hz2 hr
  have hy3 : (y 3).val < 4096 := (y 3).isLt
  exact hB y z hy0 hz0 hz1 hz2 (by omega)

/-- Before its first row a block asks nothing. -/
theorem computed_none {n u s : ℕ} (B : Buf (Elt F) (uLoc d i)) : Computed X n u s 0 (16 * 0) B := by
  intro y z _ _ _ _ hr; omega

/-- The steps on sixteen lanes: load them from the fetched slot, load the computed slot's (unused), store. -/
def laneProg {o10 o12 : Fin 4 → ℕ} {o11 o13 : Fin 3 → ℕ} (h10 : ∀ a, o10 a + S1x1x8x4096.size a ≤ S2x1x8x4096.size a)
    (h12 : ∀ a, o12 a + S1x1x8x4096.size a ≤ S2x1x8x4096.size a) (h11 : ∀ a, o11 a + S1x1x16.size a ≤ S1x8x4096.size a)
    (h13 : ∀ a, o13 a + S1x1x16.size a ≤ S1x8x4096.size a) : Prog (TpuEff nD τ sig (Elt F) Λ₀ (VT d i).2) Unit :=
  .op (.load (slotM iM o10 h10) (Rect.unit (s := S1x8x4096) o11 S1x1x16.size h11).toLoadRect (View.loadsAt_vmem h_S1x1x16)) fun v =>
  .op (.load (slotM uM o12 h12) (Rect.unit (s := S1x8x4096) o13 S1x1x16.size h13).toLoadRect (View.loadsAt_vmem h_S1x1x16)) fun _ =>
  .op (.store (slotM uM o12 h12) (Rect.unit (s := S1x8x4096) o13 S1x1x16.size h13) (k0_pay1 v) Finset.univ (View.stores_vmem_bits_univ h_S1x1x16 rfl) (.inl rfl)) fun _ =>
  .ret ⟨⟩

/-- What the loops hold: the fetched slot, and the computed slot done up to lane `16 l` of row `r`. -/
abbrev rowInv (n u s r l : ℕ) (A : Buf (Elt F) (iLoc d i)) : sProp 𝕄 :=
  iprop(iSlot d i s A ∗ ∃ B, ⌜Computed X n u s r (16 * l) B⌝ ∗ uSlot d i s B)

theorem laneProg_spec {n u s r l : ℕ} {o10 o12 : Fin 4 → ℕ} {o11 o13 : Fin 3 → ℕ} (e10 : o10 = ![s, 0, 0, 0]) (e12 : o12 = ![s, 0, 0, 0])
    (e11 : o11 = ![0, r, 16 * l]) (e13 : o13 = ![0, r, 16 * l]) (h10) (h12) (h11) (h13) (A : Buf (Elt F) (iLoc d i)) (hA : Fetched X n u s A) :
    rowInv d i X n u s r l A ⊢ wp frame (wpE (defs₀ (F := F)) 𝒱₀ (VT d i) none) Set.univ (laneProg (F := F) d i (o10 := o10) (o12 := o12) (o11 := o11) (o13 := o13) h10 h12 h11 h13)
      fun _ => rowInv d i X n u s r (l + 1) A := by
  subst e10 e12 e11 e13
  have hsub : ∀ (M : Finset S1x8x4096.Idx), (slotM iM ![s, 0, 0, 0] h10).view.setOn M ⊆ slotSet s := fun M => by
    rw [← set_iSlot h10]; exact Finset.map_subset_map.mpr (Finset.subset_univ _)
  have hsub' : ∀ (M : Finset S1x8x4096.Idx), (slotM uM ![s, 0, 0, 0] h12).view.setOn M ⊆ slotSet s := fun M => by
    rw [← set_uSlot h12]; exact Finset.map_subset_map.mpr (Finset.subset_univ _)
  have hst : ((slotM uM ![s, 0, 0, 0] h12).access (Rect.unit (s := S1x8x4096) ![0, r, 16 * l] S1x1x16.size h13)).setOn Finset.univ ⊆ slotSet s := by
    show ((slotM uM ![s, 0, 0, 0] h12).view.slice _).set ⊆ _
    rw [View.set_slice]; exact hsub' _
  unfold laneProg
  iintro ⟨HA, %B, %hB, HB⟩
  iapply (wp_load 𝒱₀ (VT d i) none Set.univ (m := slotM iM ![s, 0, 0, 0] h10) (hsub _)) $$ HA
  iintro HA
  iapply (wp_load 𝒱₀ (VT d i) none Set.univ (m := slotM uM ![s, 0, 0, 0] h12) (hsub' _)) $$ HB
  iintro HB
  iapply (wp_store 𝒱₀ (VT d i) none Set.univ (m := slotM uM ![s, 0, 0, 0] h12) hst) $$ HB
  iintro HB
  rw [wp_ret]
  imodintro
  isplitl [HA]; · iexact HA
  iexists _
  isplitr
  · ipureintro; exact computed_lanes d i X h10 h12 h11 h13 A B hA hB
  iexact HB

/-- The loop over a block's rows, each the loop over its vectors: from the fetched slot, the computed slot holds the block's
    bucket numbers. -/
theorem rows_loop {α : Type} (Q : α → sProp 𝕄) {n u s : ℕ} {o10 o12 : Fin 4 → ℕ} (e10 : o10 = ![s, 0, 0, 0]) (e12 : o12 = ![s, 0, 0, 0]) (h10) (h12)
    (ok2 : k0_t2_loop.OK) (ok3 : k0_t3_loop.OK) (h11 : ∀ t2 t3 a, (k0_off11 t2 t3) a + S1x1x16.size a ≤ S1x8x4096.size a)
    (h13 : ∀ t2 t3 a, (k0_off13 t2 t3) a + S1x1x16.size a ≤ S1x8x4096.size a)
    (body2 : Fin k0_t2_loop.trips → Unit → Prog (TpuEff nD τ sig (Elt F) Λ₀ (VT d i).2) Unit)
    (body3 : Fin k0_t2_loop.trips → Fin k0_t3_loop.trips → Unit → Prog (TpuEff nD τ sig (Elt F) Λ₀ (VT d i).2) Unit)
    (hb2 : ∀ t2 w, body2 t2 w = (Scf.Loop.for k0_t3_loop ok3 ⟨⟩ (body3 t2) >>= fun _ => pure ⟨⟩))
    (hb3 : ∀ t2 t3 w, body3 t2 t3 w = laneProg (F := F) d i (o10 := o10) (o12 := o12) h10 h12 (h11 t2 t3) (h13 t2 t3))
    (kk : Unit → Prog (TpuEff nD τ sig (Elt F) Λ₀ (VT d i).2) α) :
    iprop(iFull d i X n u s ∗ ∃ B, uSlot d i s B)
      ⊢ iprop((iprop((∃ A, iSlot d i s A) ∗ ∃ B, ⌜Computed X n u s 8 0 B⌝ ∗ uSlot d i s B)
            -∗ wp frame (wpE (defs₀ (F := F)) 𝒱₀ (VT d i) none) Set.univ (kk ⟨⟩) Q)
          -∗ wp frame (wpE (defs₀ (F := F)) 𝒱₀ (VT d i) none) Set.univ (Scf.Loop.for k0_t2_loop ok2 ⟨⟩ body2 >>= kk) Q) := by
  iintro ⟨⟨%A, %hA, HA⟩, %B, HB⟩ Hk
  iapply (Scf.wp_for_bind frame (wpE (defs₀ (F := F)) 𝒱₀ (VT d i) none) Set.univ _ _ _ ok2 ⟨⟩ body2
    (fun k _ => rowInv d i X n u s k 0 A) ?_) $$ [HA HB]
  · intro t2 w
    rw [hb2]
    iintro H
    iapply (Scf.wp_for_bind frame (wpE (defs₀ (F := F)) 𝒱₀ (VT d i) none) Set.univ _ _ _ ok3 ⟨⟩ (body3 t2)
      (fun k _ => rowInv d i X n u s t2.val k A) ?_) $$ [H]
    rotate_left
    · iexact H
    · rw [show Scf.trips k0_t3_loop.lb k0_t3_loop.ub k0_t3_loop.st = 256 from trips3]
      iintro %_ ⟨HA, %B, %hB, HB⟩
      sl_step
      isplitl [HA]; · iexact HA
      iexists B
      isplitr
      · ipureintro; exact computed_row d i X hB
      iexact HB
    · intro t3 w
      rw [hb3]
      exact laneProg_spec d i X e10 e12 (k0_off11_eq t2 t3) (k0_off13_eq t2 t3) h10 h12 _ _ A hA
  · isplitl [HA]; · iexact HA
    iexists B
    isplitr
    · ipureintro; exact computed_none d i X B
    iexact HB
  · rw [show Scf.trips k0_t2_loop.lb k0_t2_loop.ub k0_t2_loop.st = 8 from trips2]
    iintro %_ ⟨HA, %B, %hB, HB⟩
    iapply Hk
    isplitl [HA]; · iexists A; iexact HA
    iexists B
    isplitr
    · ipureintro; exact hB
    iexact HB

end Cert.Proof.Bucket

end

end
-- ==== Proof.Steps.lean ====
/- What the tile holds before each trip of its loop, and a trip's guarded steps on the transfers over it. -/
module

public import proofs.«01_k».proof.Proof.Compute

@[expose] public section

set_option maxRecDepth 4096

noncomputable section

namespace Cert.Proof.Bucket

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (d : Dev nD) (i : grid0.Coords) (X : Buf (Elt F) (xLoc d)) (f : Buf (Elt F) (oLoc d))

/-- Slot `s` of the fetch buffer free, its semaphore at zero. -/
abbrev inFree (s : ℕ) : sProp 𝕄 := iprop((∃ A, iSlot d i s A) ∗ semVal (VT d i, .dma (inSem s)) 0)
/-- Slot `s` of the computed buffer free, its semaphore at zero. -/
abbrev outFree (s : ℕ) : sProp 𝕄 := iprop((∃ B, uSlot d i s B) ∗ semVal (VT d i, .dma (outSem s)) 0)
/-- Block `u` of the output before trip `t`: bucket numbers below block `t`, the old contents from there on. -/
abbrev oAt (n t u : ℕ) : sProp 𝕄 := oBlk d n u (if u < t then bucketed X else f)
/-- The blocks of the features that are not being fetched before trip `t`. -/
def xRest (n t : ℕ) : sProp 𝕄 := bigSep ((Finset.range 25).erase t) fun u => xBlk d X n u
/-- The blocks of the features that no fetch has while two are on their way. -/
def xMid (n t : ℕ) : sProp 𝕄 := bigSep (((Finset.range 25).erase t).erase (t + 1)) fun u => xBlk d X n u
/-- The blocks of the output that are not being written back before trip `t`. -/
def oRest (n t : ℕ) : sProp 𝕄 := bigSep ((Finset.range 25).filter fun u => u + 1 ≠ t) fun u => oAt d X f n t u
/-- The blocks of the output that no write-back has while two are on their way. -/
def oMid (n t : ℕ) : sProp 𝕄 := bigSep ((Finset.range 25).filter fun u => u + 1 ≠ t ∧ u ≠ t) fun u => oAt d X f n t u
/-- The slot of block `t`: the block on its way to it, if there is such a block. -/
def inP (n t : ℕ) : sProp 𝕄 := if t < 25 then Fetching d i X n t (t % 2) else inFree d i (t % 2)
/-- The slot of the block before block `t`: that block on its way from it, if there is such a block. -/
def outP (n t : ℕ) : sProp 𝕄 := if 0 < t then Writing d i X n (t - 1) ((t + 1) % 2) else outFree d i ((t + 1) % 2)

theorem xRest_next {n t : ℕ} (ht : t < 24) : xRest d X n t = iprop(xBlk d X n (t + 1) ∗ xMid d X n t) :=
  SparseCore.bigSep_erase' (by rw [Finset.mem_erase, Finset.mem_range]; omega)
theorem xRest_last {n t : ℕ} (ht : ¬ t < 24) : xRest d X n t = xMid d X n t := by
  unfold xRest xMid
  rw [Finset.erase_eq_of_notMem (a := t + 1)]
  rw [Finset.mem_erase, Finset.mem_range]; omega
theorem xRest_back {n t : ℕ} (ht : t < 25) : xRest d X n (t + 1) = iprop(xBlk d X n t ∗ xMid d X n t) := by
  unfold xRest xMid
  rw [Finset.erase_right_comm]
  exact SparseCore.bigSep_erase' (by rw [Finset.mem_erase, Finset.mem_range]; omega)
theorem oRest_cur {n t : ℕ} (ht : t < 25) : oRest d X f n t = iprop(oBlk d n t f ∗ oMid d X f n t) := by
  unfold oRest oMid
  rw [SparseCore.bigSep_erase' (i := t) (by rw [Finset.mem_filter, Finset.mem_range]; omega), oAt, if_neg (lt_irrefl t)]
  congr 2
  ext u
  simp only [Finset.mem_erase, Finset.mem_filter, Finset.mem_range]
  omega
theorem oMid_next (n t : ℕ) : oMid d X f n t = bigSep ((Finset.range 25).filter fun u => u + 1 ≠ t ∧ u ≠ t) fun u => oAt d X f n (t + 1) u := by
  unfold oMid
  refine bigSep_congr fun u hu => ?_
  rw [Finset.mem_filter] at hu
  have : (u < t) = (u < t + 1) := by apply propext; omega
  unfold oAt
  simp only [this]
theorem oRest_back {n t : ℕ} (ht : t < 25) (h0 : 0 < t) : oRest d X f n (t + 1) = iprop(oBlk d n (t - 1) (bucketed X) ∗ oMid d X f n t) := by
  rw [oMid_next]
  unfold oRest
  rw [SparseCore.bigSep_erase' (i := t - 1) (by rw [Finset.mem_filter, Finset.mem_range]; omega), oAt, if_pos (by omega)]
  congr 2
  ext u
  simp only [Finset.mem_erase, Finset.mem_filter, Finset.mem_range]
  omega
theorem oRest_first {n t : ℕ} (h0 : ¬ 0 < t) : oRest d X f n (t + 1) = oMid d X f n t := by
  rw [oMid_next]
  unfold oRest
  congr 1
  ext u
  simp only [Finset.mem_filter, Finset.mem_range]
  omega

/-- A trip's first step: if there is a next block, its fetch is started. -/
theorem next_fetch {α : Type} {n t : ℕ} {c : Prop} [Decidable c] (hc : t < 24 → c) (hnc : ¬ t < 24 → ¬ c)
    {o3 : Fin 3 → ℕ} {o4 : Fin 4 → ℕ} {o1 : Fin 1 → ℕ} (e3 : t < 24 → o3 = ![n, 8 * (t + 1), 0]) (e4 : t < 24 → o4 = ![(t + 1) % 2, 0, 0, 0])
    (e1 : t < 24 → o1 = ![(t + 1) % 2]) (h3 : c → ∀ a, o3 a + S1x8x4096.size a ≤ S26x200x4096.size a)
    (h4 : c → ∀ a, o4 a + S1x1x8x4096.size a ≤ S2x1x8x4096.size a) (h1 : c → ∀ a, o1 a + S1.size a ≤ S2.size a)
    (hw : ∀ h : c, (blkM xM o3 (h3 h)).view.WordExact) (hw' : ∀ h : c, (DmaTarget.here (p := (VT d i).2) (slotM iM o4 (h4 h))).view.WordExact)
    (ht : ∀ h : c, DmaTarget.Typed (nD := nD) Space.hbm (SemLoc.dma (semM cc0_scoped1 o1 (h1 h)).sem) (DmaTarget.here (p := (VT d i).2) (slotM iM o4 (h4 h)))) (p : Prog (TpuEff nD τ sig (Elt F) Λ₀ (VT d i).2) α) (Q : α → sProp 𝕄) :
    iprop(xRest d X n t ∗ inFree d i ((t + 1) % 2))
      ⊢ iprop((iprop(xMid d X n t ∗ inP d i X n (t + 1)) -∗ wp frame (wpE (defs₀ (F := F)) 𝒱₀ (VT d i) none) Set.univ p Q)
          -∗ wp frame (wpE (defs₀ (F := F)) 𝒱₀ (VT d i) none) Set.univ
              (if h : c then (do
                Prog.lift (.enqueueDma (blkM xM o3 (h3 h)) (.here (slotM iM o4 (h4 h))) (.dma (semM cc0_scoped1 o1 (h1 h)).sem) (hw h) (hw' h) (ht h))
                p)
              else p) Q) := by
  by_cases h : t < 24
  · rw [dif_pos (hc h), xRest_next d X h, inP, if_pos (by omega : t + 1 < 25)]
    iintro ⟨⟨Hx, Hm⟩, ⟨%A, HA⟩, HS⟩ Hk
    iapply (fetch_start d i X Q (Nat.mod_lt _ (by decide)) (e3 h) (e4 h) (e1 h) (h3 (hc h)) (h4 (hc h)) (h1 (hc h)) (hw (hc h)) (hw' (hc h)) (ht (hc h)) A (fun _ => p)) $$ [Hx HA HS]
    · isplitl [Hx]; · iexact Hx
      isplitl [HA]; · iexact HA
      iexact HS
    iintro HF
    iapply Hk
    isplitl [Hm]; · iexact Hm
    iexact HF
  · rw [dif_neg (hnc h), xRest_last d X h, inP, if_neg (by omega : ¬ t + 1 < 25)]
    iintro ⟨Hm, HF⟩ Hk
    iapply Hk
    isplitl [Hm]; · iexact Hm
    iexact HF

/-- A trip's second step: its block's fetch is waited for. -/
theorem cur_fetched {α : Type} (O : CellTallies nD τ sig (HIx 1)) (W : Waits sig (HIx 1)) {n t : ℕ} (ht : t < 25) {c : Prop} [Decidable c] (hc : c)
    {o3 : Fin 3 → ℕ} {o4 : Fin 4 → ℕ} {o1 : Fin 1 → ℕ} (e1 : o1 = ![t % 2]) (h3 : c → ∀ a, o3 a + S1x8x4096.size a ≤ S26x200x4096.size a)
    (h4 : c → ∀ a, o4 a + S1x1x8x4096.size a ≤ S2x1x8x4096.size a) (h1 : c → ∀ a, o1 a + S1.size a ≤ S2.size a)
    (hw : ∀ h : c, (blkM xM o3 (h3 h)).view.WordExact) (hw' : ∀ h : c, (slotM iM o4 (h4 h)).view.WordExact) (p : Prog (TpuEff nD τ sig (Elt F) Λ₀ (VT d i).2) α) (Q : α → sProp 𝕄) :
    iprop(Transfers.MayWaits (VT d i) (default : HIx 1) O ∗ xMid d X n t ∗ inP d i X n t ∗ Owing d i O W)
      ⊢ iprop((iprop(xRest d X n (t + 1) ∗ iFull d i X n t (t % 2) ∗ semVal (VT d i, .dma (inSem (t % 2))) 0 ∗ Owing d i O W) -∗ wp frame (wpE (defs₀ (F := F)) 𝒱₀ (VT d i) none) Set.univ p Q)
          -∗ wp frame (wpE (defs₀ (F := F)) 𝒱₀ (VT d i) none) Set.univ
              (if h : c then (do
                Prog.lift (.waitDma2 (semM cc0_scoped1 o1 (h1 h)).sem (blkM xM o3 (h3 h)) (slotM iM o4 (h4 h)) (hw h) (hw' h))
                p)
              else p) Q) := by
  rw [dif_pos hc, inP, if_pos ht, xRest_back d X ht]
  iintro ⟨#Hmw, Hm, HF, HO⟩ Hk
  iapply (fetch_wait d i X Q O W (Nat.mod_lt _ (by decide)) e1 (blkM xM o3 (h3 hc)) (h4 hc) (h1 hc) (hw hc) (hw' hc) (fun _ => p)) $$ [HF HO]
  · isplitr; · iexact Hmw
    isplitl [HF]; · iexact HF
    iexact HO
  iintro ⟨HA, HX, HS, HO⟩
  iapply Hk
  isplitl [HX Hm]
  · isplitl [HX]; · iexact HX
    iexact Hm
  isplitl [HA]; · iexact HA
  isplitl [HS]; · iexact HS
  iexact HO

/-- A trip's fourth step: its block's write-back is started. -/
theorem cur_write {α : Type} {n t : ℕ} (ht : t < 25) {c : Prop} [Decidable c] (hc : c)
    {o3 : Fin 3 → ℕ} {o4 : Fin 4 → ℕ} {o1 : Fin 1 → ℕ} (e3 : o3 = ![n, 8 * t, 0]) (e4 : o4 = ![t % 2, 0, 0, 0])
    (e1 : o1 = ![t % 2]) (h3 : c → ∀ a, o3 a + S1x8x4096.size a ≤ S26x200x4096.size a)
    (h4 : c → ∀ a, o4 a + S1x1x8x4096.size a ≤ S2x1x8x4096.size a) (h1 : c → ∀ a, o1 a + S1.size a ≤ S2.size a)
    (hw : ∀ h : c, (slotM uM o4 (h4 h)).view.WordExact) (hw' : ∀ h : c, (DmaTarget.here (p := (VT d i).2) (blkM oM o3 (h3 h))).view.WordExact)
    (hty : ∀ h : c, DmaTarget.Typed (nD := nD) Space.vmem (SemLoc.dma (semM cc0_scoped3 o1 (h1 h)).sem) (DmaTarget.here (p := (VT d i).2) (blkM oM o3 (h3 h)))) (p : Prog (TpuEff nD τ sig (Elt F) Λ₀ (VT d i).2) α) (Q : α → sProp 𝕄) :
    iprop(oRest d X f n t ∗ (∃ B, ⌜Computed X n t (t % 2) 8 0 B⌝ ∗ uSlot d i (t % 2) B) ∗ semVal (VT d i, .dma (outSem (t % 2))) 0)
      ⊢ iprop((iprop(oMid d X f n t ∗ outP d i X n (t + 1)) -∗ wp frame (wpE (defs₀ (F := F)) 𝒱₀ (VT d i) none) Set.univ p Q)
          -∗ wp frame (wpE (defs₀ (F := F)) 𝒱₀ (VT d i) none) Set.univ
              (if h : c then (do
                Prog.lift (.enqueueDma (slotM uM o4 (h4 h)) (.here (blkM oM o3 (h3 h))) (.dma (semM cc0_scoped3 o1 (h1 h)).sem) (hw h) (hw' h) (hty h))
                p)
              else p) Q) := by
  rw [dif_pos hc, oRest_cur d X f ht, outP, if_pos (Nat.succ_pos t), show (t + 1 + 1) % 2 = t % 2 by omega]
  iintro ⟨⟨Ho, Hm⟩, ⟨%B, %hB, HB⟩, HS⟩ Hk
  iapply (write_start d i X Q (Nat.mod_lt _ (by decide)) e3 e4 e1 (h3 hc) (h4 hc) (h1 hc) (hw hc) (hw' hc) (hty hc) B hB f (fun _ => p)) $$ [Ho HB HS]
  · isplitl [Ho]; · iexact Ho
    isplitl [HB]; · iexact HB
    iexact HS
  iintro HF
  iapply Hk
  isplitl [Hm]; · iexact Hm
  iexact HF

/-- A trip's last step: the write-back of the block before, if there is one, is waited for. -/
theorem prev_written {α : Type} (O : CellTallies nD τ sig (HIx 1)) (W : Waits sig (HIx 1)) {n t : ℕ} (ht : t < 25) {c : Prop} [Decidable c]
    (hc : 0 < t → c) (hnc : ¬ 0 < t → ¬ c)
    {o3 : Fin 3 → ℕ} {o4 : Fin 4 → ℕ} {o1 : Fin 1 → ℕ} (e1 : 0 < t → o1 = ![(t + 1) % 2]) (h3 : c → ∀ a, o3 a + S1x8x4096.size a ≤ S26x200x4096.size a)
    (h4 : c → ∀ a, o4 a + S1x1x8x4096.size a ≤ S2x1x8x4096.size a) (h1 : c → ∀ a, o1 a + S1.size a ≤ S2.size a)
    (hw : ∀ h : c, (slotM uM o4 (h4 h)).view.WordExact) (hw' : ∀ h : c, (blkM oM o3 (h3 h)).view.WordExact) (p : Prog (TpuEff nD τ sig (Elt F) Λ₀ (VT d i).2) α) (Q : α → sProp 𝕄) :
    iprop(Transfers.MayWaits (VT d i) (default : HIx 1) O ∗ oMid d X f n t ∗ outP d i X n t ∗ Owing d i O W)
      ⊢ iprop((iprop(oRest d X f n (t + 1) ∗ outFree d i ((t + 1) % 2) ∗ Owing d i O W) -∗ wp frame (wpE (defs₀ (F := F)) 𝒱₀ (VT d i) none) Set.univ p Q)
          -∗ wp frame (wpE (defs₀ (F := F)) 𝒱₀ (VT d i) none) Set.univ
              (if h : c then (do
                Prog.lift (.waitDma2 (semM cc0_scoped3 o1 (h1 h)).sem (slotM uM o4 (h4 h)) (blkM oM o3 (h3 h)) (hw h) (hw' h))
                p)
              else p) Q) := by
  by_cases h : 0 < t
  · rw [dif_pos (hc h), outP, if_pos h, oRest_back d X f ht h]
    iintro ⟨#Hmw, Hm, HF, HO⟩ Hk
    iapply (write_wait d i X Q O W (Nat.mod_lt _ (by decide)) (e1 h) (slotM uM o4 (h4 (hc h))) (h3 (hc h)) (h1 (hc h)) (hw (hc h)) (hw' (hc h)) (fun _ => p)) $$ [HF HO]
    · isplitr; · iexact Hmw
      isplitl [HF]; · iexact HF
      iexact HO
    iintro ⟨HX, HB, HS, HO⟩
    iapply Hk
    isplitl [HX Hm]
    · isplitl [HX]; · iexact HX
      iexact Hm
    isplitl [HB HS]
    · isplitl [HB]; · iexact HB
      iexact HS
    iexact HO
  · rw [dif_neg (hnc h), outP, if_neg h, oRest_first d X f h]
    iintro ⟨#Hmw, Hm, HF, HO⟩ Hk
    iapply Hk
    isplitl [Hm]; · iexact Hm
    isplitl [HF]; · iexact HF
    iexact HO

end Cert.Proof.Bucket

end

end
-- ==== Proof.Trip.lean ====
/- One trip of the pipeline loop. -/
module

public import proofs.«01_k».proof.Proof.Steps

@[expose] public section

set_option maxRecDepth 4096

noncomputable section

namespace Cert.Proof.Bucket

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (d : Dev nD) (i : grid0.Coords) (X : Buf (Elt F) (xLoc d)) (f : Buf (Elt F) (oLoc d))

/-- What the tile holds before trip `t`. -/
def tripInv (O : CellTallies nD τ sig (HIx 1)) (W : Waits sig (HIx 1)) (n t : ℕ) : sProp 𝕄 :=
  iprop(Transfers.MayWaits (VT d i) (default : HIx 1) O ∗ xRest d X n t ∗ inP d i X n t ∗ inFree d i ((t + 1) % 2)
    ∗ oRest d X f n t ∗ outP d i X n t ∗ outFree d i (t % 2) ∗ Owing d i O W)

/-- Tuples of equal words: the first part's. -/
theorem words1 (t : Fin (k0_t1_loop i).trips) {a5 a6 a7 a8 a9 a10 : BitVec 32} (Q : _ → sProp 𝕄) (w3 : k0_chk3 i t a7) (w2 : k0_chk2 i t a6) (w1 : k0_chk1 i t a5 a6 a7 a8 a9 a10)
    {x1 y1 x2 y2 : BitVec 32} {x3 y3 x4 y4 : BitVec 1} {x5 y5 x6 y6 x7 y7 x8 y8 : BitVec 32} {x9 y9 : BitVec 1} {x10 y10 x11 : BitVec 32}
    (h1 : x1 = y1) (h2 : x2 = y2) (h3 : x3 = y3) (h4 : x4 = y4) (h5 : x5 = y5) (h6 : x6 = y6) (h7 : x7 = y7) (h8 : x8 = y8)
    (h9 : x9 = y9) (h10 : x10 = y10) :
    Q (⟨w3, w2, w1, y1, y2, y3, y4, y5, y6, y7, y8, y9, y10, x11⟩ : Σ' (_ : k0_chk3 i t a7) (_ : k0_chk2 i t a6) (_ : k0_chk1 i t a5 a6 a7 a8 a9 a10)
      (_ : BitVec 32) (_ : BitVec 32) (_ : BitVec 1) (_ : BitVec 1) (_ : BitVec 32) (_ : BitVec 32) (_ : BitVec 32) (_ : BitVec 32) (_ : BitVec 1) (_ : BitVec 32), BitVec 32)
      ⊢ Q ⟨w3, w2, w1, x1, x2, x3, x4, x5, x6, x7, x8, x9, x10, x11⟩ := by
  subst h1 h2 h3 h4 h5 h6 h7 h8 h9 h10; exact .rfl

/-- Tuples of equal words: the second part's. -/
theorem words2 (Q : _ → sProp 𝕄) {x1 y1 x2 y2 x3 y3 : BitVec 32} {x4 y4 : BitVec 1} {x5 y5 x6 : BitVec 32}
    (h1 : x1 = y1) (h2 : x2 = y2) (h3 : x3 = y3) (h4 : x4 = y4) (h5 : x5 = y5) :
    Q (⟨y1, y2, y3, y4, y5, x6⟩ : Σ' (_ : BitVec 32) (_ : BitVec 32) (_ : BitVec 32) (_ : BitVec 1) (_ : BitVec 32), BitVec 32)
      ⊢ Q ⟨x1, x2, x3, x4, x5, x6⟩ := by
  subst h1 h2 h3 h4 h5; exact .rfl

/-- Equal words. -/
theorem word_eq {α : Type} (Q : α → sProp 𝕄) {x y : α} (h : x = y) : Q y ⊢ Q x := by subst h; exact .rfl

/-- The first part of a trip makes its three checks and computes words. -/
theorem part1_spec (h1 : k0_cond1 i = 1#1) (t : Fin (k0_t1_loop i).trips) (Q : _ → sProp 𝕄) :
    Q ⟨chk3_of i h1 t, chk2_of i h1 t, chk1_of i h1 t, BitVec.ofNat 32 t.val, 25#32, Scalar.cmpi .eq (BitVec.ofNat 32 t.val) 0#32, Scalar.cmpi .eq (BitVec.ofNat 32 t.val) 24#32,
        BitVec.ofNat 32 (tileNo i), BitVec.ofNat 32 (t.val % 25), BitVec.ofNat 32 (tileNo i), BitVec.ofNat 32 ((t.val + 24) % 25), Scalar.cmpi .eq (BitVec.ofNat 32 t.val) 24#32, BitVec.ofNat 32 ((t.val + 1) % 25), 1#32⟩
      ⊢ wp frame (wpE (defs₀ (F := F)) 𝒱₀ (VT d i) none) Set.univ (k0_part1 (F := F) i xM (Memref.isWhole_whole _) oM (Memref.isWhole_whole _) iM (Memref.isWhole_whole _) cc0_scoped1 uM (Memref.isWhole_whole _) cc0_scoped3 1#32 (BitVec.ofNat 32 (tileNo i)) 0#32 1#32 t (BitVec.ofNat 32 (min (t.val + 1) 25)) (BitVec.ofNat 32 t.val) (BitVec.ofNat 32 t.val) (BitVec.ofNat 32 (t.val - 1)) 0#32 (BitVec.ofNat 32 (t.val % 25))) Q := by
  rw [k0_part1_eq_skeleton]
  unfold k0_part1_skel
  iintro HQ
  rw [wp_bind]
  iapply (wp_assume 𝒱₀ (VT d i) none Set.univ (chk3_of i h1 t))
  sl_step
  rw [wp_bind]
  iapply (wp_assume 𝒱₀ (VT d i) none Set.univ (chk2_of i h1 t))
  sl_step
  rw [wp_bind]
  iapply (wp_assume 𝒱₀ (VT d i) none Set.univ (chk1_of i h1 t))
  sl_step
  sl_whnfR []
  sl_step
  iapply (words1 i t Q _ _ _ ?_ ?_ ?_ ?_ ?_ ?_ ?_ ?_ ?_ ?_) $$ HQ <;> clear * - h1 t <;> revert t <;> revert h1 <;> revert i <;> decide +kernel

/-- The second part of a trip starts the fetch of the next block, if there is one. -/
theorem part2_spec (h1 : k0_cond1 i = 1#1) (t : Fin (k0_t1_loop i).trips) (w1) (Q : _ → sProp 𝕄) :
    iprop(xRest d X (tileNo i) t.val ∗ inFree d i ((t.val + 1) % 2))
      ⊢ iprop((iprop(xMid d X (tileNo i) t.val ∗ inP d i X (tileNo i) (t.val + 1))
          -∗ Q ⟨BitVec.ofNat 32 (tileNo i), BitVec.ofNat 32 ((t.val + 1) % 25), BitVec.ofNat 32 (min (t.val + 2) 25), 1#1, 23#32, 1#32⟩)
        -∗ wp frame (wpE (defs₀ (F := F)) 𝒱₀ (VT d i) none) Set.univ (k0_part2 (F := F) i xM (Memref.isWhole_whole _) oM (Memref.isWhole_whole _) iM (Memref.isWhole_whole _) cc0_scoped1 uM (Memref.isWhole_whole _) cc0_scoped3 1#32 (BitVec.ofNat 32 (tileNo i)) h1 t (BitVec.ofNat 32 (min (t.val + 1) 25)) (BitVec.ofNat 32 t.val) (BitVec.ofNat 32 t.val) (BitVec.ofNat 32 (t.val - 1)) 0#32 (BitVec.ofNat 32 (t.val % 25)) w1 (BitVec.ofNat 32 t.val) 25#32 (BitVec.ofNat 32 (tileNo i)) (BitVec.ofNat 32 (t.val % 25))
          (Scalar.cmpi .eq (BitVec.ofNat 32 t.val) 24#32) (BitVec.ofNat 32 ((t.val + 1) % 25)) 1#32) Q) := by
  have ht : t.val < 25 := lt_of_lt_of_eq t.isLt (trips1 i h1)
  rw [k0_part2_eq_skeleton]
  unfold k0_part2_skel
  iintro ⟨Hx, HIF⟩ Hk
  sl_whnfR []
  iapply (next_fetch d i X (cond3_of i h1 t) (cond3_not i h1 t) (off5_eq i h1 ⟨t.val, ht⟩) (off4_eq ⟨t.val, ht⟩) (off6_eq ⟨t.val, ht⟩) _ _ _
    (fun _ => View.wordExact_bits rfl) (fun _ => (View.wordExact_bits rfl).reshape _ _) (fun _ => ⟨Or.inl rfl, trivial⟩)) $$ [Hx HIF]
  · isplitl [Hx]; · iexact Hx
    iexact HIF
  iintro H
  sl_whnfR []
  sl_step
  ihave HQ := Hk $$ H
  iapply (words2 Q ?_ ?_ ?_ ?_ ?_) $$ HQ <;> clear * - h1 t <;> revert t <;> revert h1 <;> revert i <;> decide +kernel

/-- The third part of a trip waits for the trip's block, computes its bucket numbers and starts writing them back. -/
theorem part3_spec (O : CellTallies nD τ sig (HIx 1)) (W : Waits sig (HIx 1)) (h1 : k0_cond1 i = 1#1) (t : Fin (k0_t1_loop i).trips) (w3 w2 w1) (Q : BitVec 32 → sProp 𝕄) :
    iprop(Transfers.MayWaits (VT d i) (default : HIx 1) O ∗ xMid d X (tileNo i) t.val ∗ inP d i X (tileNo i) t.val ∗ oRest d X f (tileNo i) t.val
        ∗ outFree d i (t.val % 2) ∗ Owing d i O W)
      ⊢ iprop((iprop(xRest d X (tileNo i) (t.val + 1) ∗ inFree d i (t.val % 2) ∗ oMid d X f (tileNo i) t.val ∗ outP d i X (tileNo i) (t.val + 1) ∗ Owing d i O W)
          -∗ Q (BitVec.ofNat 32 (t.val + 1)))
        -∗ wp frame (wpE (defs₀ (F := F)) 𝒱₀ (VT d i) none) Set.univ (k0_part3 (F := F) i xM (Memref.isWhole_whole _) oM (Memref.isWhole_whole _) iM (Memref.isWhole_whole _) cc0_scoped1 uM (Memref.isWhole_whole _) cc0_scoped3 h1 t (BitVec.ofNat 32 (min (t.val + 1) 25)) (BitVec.ofNat 32 t.val) (BitVec.ofNat 32 t.val) (BitVec.ofNat 32 (t.val - 1)) 0#32 (BitVec.ofNat 32 (t.val % 25)) w3 w2 w1 (BitVec.ofNat 32 t.val)
          (Scalar.cmpi .eq (BitVec.ofNat 32 t.val) 0#32) (Scalar.cmpi .eq (BitVec.ofNat 32 t.val) 24#32) (BitVec.ofNat 32 (tileNo i)) (BitVec.ofNat 32 (t.val % 25)) (BitVec.ofNat 32 (tileNo i)) (BitVec.ofNat 32 ((t.val + 24) % 25))
          (BitVec.ofNat 32 (tileNo i)) (BitVec.ofNat 32 ((t.val + 1) % 25)) 1#1 23#32 1#32) Q) := by
  have ht : t.val < 25 := lt_of_lt_of_eq t.isLt (trips1 i h1)
  rw [k0_part3_eq_skeleton]
  unfold k0_part3_skel
  iintro ⟨#Hmw, Hx, HI, Ho, ⟨HB, HS⟩, HO⟩ Hk
  sl_whnfR []
  iapply (cur_fetched d i X O W ht (cond4_of i h1 t) (off9_eq ⟨t.val, ht⟩) _ _ _
    (fun _ => View.wordExact_bits rfl) (fun _ => (View.wordExact_bits rfl).reshape _ _)) $$ [Hx HI HO]
  · isplitr; · iexact Hmw
    isplitl [Hx]; · iexact Hx
    isplitl [HI]; · iexact HI
    iexact HO
  iintro ⟨Hx, HA, HSI, HO⟩
  sl_whnfR []
  rw [ite_self]
  sl_whnfR []
  iapply (rows_loop d i X Q (off10_eq ⟨t.val, ht⟩) (off12_eq ⟨t.val, ht⟩) (k0_off10_inb i t _ w2 h1) (k0_off12_inb i t _ w3 h1) (k0_t2_ok i h1) (k0_t3_ok i h1)
    (fun t2 t3 => k0_off11_inb i t2 t3 h1) (fun t2 t3 => k0_off13_inb i t2 t3 h1) _ _ (fun _ _ => rfl) (fun _ _ _ => rfl)) $$ [HA HB]
  · isplitl [HA]; · iexact HA
    iexact HB
  iintro ⟨HA, HB⟩
  sl_whnfR []
  rw [ite_self]
  sl_whnfR []
  iapply (cur_write d i X f ht (cond7_of i h1 t) (off15_eq i h1 ⟨t.val, ht⟩) (off14_eq ⟨t.val, ht⟩) (off16_eq ⟨t.val, ht⟩) _ _ _
    (fun _ => (View.wordExact_bits rfl).reshape _ _) (fun _ => View.wordExact_bits rfl) (fun _ => ⟨Or.inl rfl, trivial⟩)) $$ [Ho HB HS]
  · isplitl [Ho]; · iexact Ho
    isplitl [HB]; · iexact HB
    iexact HS
  iintro ⟨Ho, HU⟩
  sl_whnfR []
  sl_step
  ihave HQ := Hk $$ [Hx HA HSI Ho HU HO]
  · isplitl [Hx]; · iexact Hx
    isplitl [HA HSI]
    · isplitl [HA]; · iexact HA
      iexact HSI
    isplitl [Ho]; · iexact Ho
    isplitl [HU]; · iexact HU
    iexact HO
  iapply (word_eq Q ?_) $$ HQ <;> clear * - h1 t <;> revert t <;> revert h1 <;> revert i <;> decide +kernel

set_option maxHeartbeats 2000000 in
/-- One trip of the loop: from what the tile holds before trip `t` to what it holds before trip `t + 1`. -/
theorem trip_spec (O : CellTallies nD τ sig (HIx 1)) (W : Waits sig (HIx 1)) (h1 : k0_cond1 i = 1#1) (t : Fin (k0_t1_loop i).trips)
    (v21 v24 v42 v45 : BitVec 32) (Q : _ → sProp 𝕄) :
    tripInv d i X f O W (tileNo i) t.val ⊢ iprop((tripInv d i X f O W (tileNo i) (t.val + 1) -∗ Q (stWords (t.val + 1)))
      -∗ wp frame (wpE (defs₀ (F := F)) 𝒱₀ (VT d i) none) Set.univ
        (k0_t1_body (F := F) i xM (Memref.isWhole_whole _) oM (Memref.isWhole_whole _) iM (Memref.isWhole_whole _) cc0_scoped1 uM (Memref.isWhole_whole _) cc0_scoped3
          1#32 (BitVec.ofNat 32 (tileNo i)) 25#32 h1 v21 v24 v42 v45 t (stWords t.val)) Q) := by
  have ht : t.val < 25 := lt_of_lt_of_eq t.isLt (trips1 i h1)
  unfold tripInv
  iintro ⟨#Hmw, Hx, HI, HIF, Ho, HU, HUF, HO⟩ Hk
  unfold k0_t1_body stWords
  sl_whnfR []
  rw [wp_bind]
  iapply (part1_spec d i h1 t)
  sl_whnfR []
  rw [wp_bind]
  iapply (part2_spec d i X h1 t) $$ [Hx HIF]
  · isplitl [Hx]; · iexact Hx
    iexact HIF
  iintro ⟨Hx, HI'⟩
  sl_whnfR []
  rw [wp_bind]
  iapply (part3_spec d i X f O W h1 t) $$ [Hx HI Ho HUF HO]
  · isplitr; · iexact Hmw
    isplitl [Hx]; · iexact Hx
    isplitl [HI]; · iexact HI
    isplitl [Ho]; · iexact Ho
    isplitl [HUF]; · iexact HUF
    iexact HO
  iintro ⟨Hx, HIF, Ho, HU', HO⟩
  sl_whnfR []
  rw [ite_self]
  sl_whnfR []
  iapply (prev_written d i X f O W ht (cond9_of i h1 t) (cond9_not i h1 t) (off19_eq ⟨t.val, ht⟩) _ _ _
    (fun _ => (View.wordExact_bits rfl).reshape _ _) (fun _ => View.wordExact_bits rfl)) $$ [Ho HU HO]
  · isplitr; · iexact Hmw
    isplitl [Ho]; · iexact Ho
    isplitl [HU]; · iexact HU
    iexact HO
  iintro ⟨Ho, HUF, HO⟩
  sl_whnfR []
  sl_step
  ihave HQ := Hk $$ [Hx HI' HIF Ho HU' HUF HO]
  · isplitr; · iexact Hmw
    isplitl [Hx]; · iexact Hx
    isplitl [HI']; · iexact HI'
    isplitl [HIF]
    · rw [show (t.val + 1 + 1) % 2 = t.val % 2 by omega]
      iexact HIF
    isplitl [Ho]; · iexact Ho
    isplitl [HU']; · iexact HU'
    isplitl [HUF]; · iexact HUF
    iexact HO
  iapply (word_eq Q ?_) $$ HQ <;> clear * - h1 t <;> revert t <;> revert h1 <;> revert i <;> decide +kernel

end Cert.Proof.Bucket
end
end
-- ==== Proof.Tile.lean ====
/- A working tile's pipeline: the first fetch, the loop over the blocks, the last write-back. -/
module

public import proofs.«01_k».proof.Proof.Trip

@[expose] public section

set_option maxRecDepth 4096

noncomputable section

namespace Cert.Proof.Bucket

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (d : Dev nD) (i : grid0.Coords) (X : Buf (Elt F) (xLoc d)) (f : Buf (Elt F) (oLoc d))

/-- The blocks of the features in a tile's slot. -/
abbrev xAll (n : ℕ) : sProp 𝕄 := bigSep (Finset.range 25) fun u => xBlk d X n u
/-- The blocks of the output in a tile's slot, all at the contents `f`. -/
abbrev oAll (n : ℕ) (f : Buf (Elt F) (oLoc d)) : sProp 𝕄 := bigSep (Finset.range 25) fun u => oBlk d n u f

theorem xAll_first (n : ℕ) : xAll d X n = iprop(xBlk d X n 0 ∗ xRest d X n 0) := SparseCore.bigSep_erase' (by decide)
theorem xRest_end (n : ℕ) : xRest d X n 25 = xAll d X n := by
  unfold xRest
  rw [Finset.erase_eq_of_notMem (by decide)]
theorem inP_end (n : ℕ) : inP d i X n 25 = inFree d i 1 := if_neg (lt_irrefl 25)
theorem oRest_start (n : ℕ) : oRest d X f n 0 = oAll d n f := by
  unfold oRest oAll
  rw [Finset.filter_true_of_mem (fun u _ => Nat.succ_ne_zero u)]
  refine bigSep_congr fun u _ => ?_
  rw [oAt, if_neg (Nat.not_lt_zero u)]
theorem oAll_last (n : ℕ) : oAll d n (bucketed X) = iprop(oBlk d n 24 (bucketed X) ∗ oRest d X f n 25) := by
  rw [oAll, SparseCore.bigSep_erase' (i := 24) (by decide)]
  refine congrArg (fun P : sProp 𝕄 => iprop(oBlk d n 24 (bucketed X) ∗ P)) ?_
  unfold oRest
  rw [show (Finset.range 25).filter (fun u => u + 1 ≠ 25) = (Finset.range 25).erase 24 by
    ext u; simp only [Finset.mem_filter, Finset.mem_erase, Finset.mem_range]; omega]
  refine bigSep_congr fun u hu => ?_
  rw [Finset.mem_erase, Finset.mem_range] at hu
  rw [oAt, if_pos hu.2]

/-- Before the loop: the fetch of the first block is started. -/
theorem first_fetch {α : Type} {n : ℕ} {c : Prop} [Decidable c] (hc : c) {o3 : Fin 3 → ℕ} {o4 : Fin 4 → ℕ} {o1 : Fin 1 → ℕ}
    (e3 : o3 = ![n, 8 * 0, 0]) (e4 : o4 = ![0, 0, 0, 0]) (e1 : o1 = ![0]) (h3 : c → ∀ a, o3 a + S1x8x4096.size a ≤ S26x200x4096.size a)
    (h4 : c → ∀ a, o4 a + S1x1x8x4096.size a ≤ S2x1x8x4096.size a) (h1 : c → ∀ a, o1 a + S1.size a ≤ S2.size a)
    (hw : ∀ h : c, (blkM xM o3 (h3 h)).view.WordExact) (hw' : ∀ h : c, (DmaTarget.here (p := (VT d i).2) (slotM iM o4 (h4 h))).view.WordExact)
    (ht : ∀ h : c, DmaTarget.Typed (nD := nD) Space.hbm (SemLoc.dma (semM cc0_scoped1 o1 (h1 h)).sem) (DmaTarget.here (p := (VT d i).2) (slotM iM o4 (h4 h))))
    (p : Prog (TpuEff nD τ sig (Elt F) Λ₀ (VT d i).2) α) (Q : α → sProp 𝕄) :
    iprop(xAll d X n ∗ inFree d i 0)
      ⊢ iprop((iprop(xRest d X n 0 ∗ inP d i X n 0) -∗ wp frame (wpE (defs₀ (F := F)) 𝒱₀ (VT d i) none) Set.univ p Q)
          -∗ wp frame (wpE (defs₀ (F := F)) 𝒱₀ (VT d i) none) Set.univ
              (if h : c then (do
                Prog.lift (.enqueueDma (blkM xM o3 (h3 h)) (.here (slotM iM o4 (h4 h))) (.dma (semM cc0_scoped1 o1 (h1 h)).sem) (hw h) (hw' h) (ht h))
                p)
              else p) Q) := by
  rw [dif_pos hc, xAll_first, inP, if_pos (by decide : 0 < 25)]
  iintro ⟨⟨Hx, Hm⟩, ⟨%A, HA⟩, HS⟩ Hk
  iapply (fetch_start d i X Q (by decide : 0 < 2) e3 e4 e1 (h3 hc) (h4 hc) (h1 hc) (hw hc) (hw' hc) (ht hc) A (fun _ => p)) $$ [Hx HA HS]
  · isplitl [Hx]; · iexact Hx
    isplitl [HA]; · iexact HA
    iexact HS
  iintro HF
  iapply Hk
  isplitl [Hm]; · iexact Hm
  iexact HF

/-- After the loop: the last block's write-back is waited for. -/
theorem last_written {α : Type} (O : CellTallies nD τ sig (HIx 1)) (W : Waits sig (HIx 1)) {n : ℕ}
    {o3 : Fin 3 → ℕ} {o4 : Fin 4 → ℕ} {o1 : Fin 1 → ℕ} (e1 : o1 = ![0]) (h3 : ∀ a, o3 a + S1x8x4096.size a ≤ S26x200x4096.size a)
    (h4 : ∀ a, o4 a + S1x1x8x4096.size a ≤ S2x1x8x4096.size a) (h1 : ∀ a, o1 a + S1.size a ≤ S2.size a)
    (hw : (slotM uM o4 h4).view.WordExact) (hw' : (blkM oM o3 h3).view.WordExact)
    (p : Prog (TpuEff nD τ sig (Elt F) Λ₀ (VT d i).2) α) (Q : α → sProp 𝕄) :
    iprop(Transfers.MayWaits (VT d i) (default : HIx 1) O ∗ oRest d X f n 25 ∗ outP d i X n 25 ∗ Owing d i O W)
      ⊢ iprop((iprop(oAll d n (bucketed X) ∗ outFree d i 0 ∗ Owing d i O W) -∗ wp frame (wpE (defs₀ (F := F)) 𝒱₀ (VT d i) none) Set.univ p Q)
          -∗ wp frame (wpE (defs₀ (F := F)) 𝒱₀ (VT d i) none) Set.univ
              (do
                Prog.lift (.waitDma2 (semM cc0_scoped3 o1 h1).sem (slotM uM o4 h4) (blkM oM o3 h3) hw hw')
                p) Q) := by
  rw [outP, if_pos (by decide : 0 < 25), oAll_last d X f]
  iintro ⟨#Hmw, Hm, HF, HO⟩ Hk
  iapply (write_wait d i X Q O W (by decide : 0 < 2) e1 (slotM uM o4 h4) h3 h1 hw hw' (fun _ => p)) $$ [HF HO]
  · isplitr; · iexact Hmw
    isplitl [HF]; · iexact HF
    iexact HO
  iintro ⟨HX, HB, HS, HO⟩
  iapply Hk
  isplitl [HX Hm]
  · isplitl [HX]; · iexact HX
    iexact Hm
  isplitl [HB HS]
  · isplitl [HB]; · iexact HB
    iexact HS
  iexact HO

/-- The words after the last trip. -/
theorem stWords_end : stWords 25 = (25#32, 25#32, 25#32, 24#32, 0#32, 0#32, 0#32) := by decide +kernel

/-- The pipeline's words before its loop and after it: the first fetch and the loop. -/
theorem part8_spec (O : CellTallies nD τ sig (HIx 1)) (W : Waits sig (HIx 1)) (h1 : k0_cond1 i = 1#1) (v24 v42 v45 : BitVec 32) (Q : _ → sProp 𝕄) :
    iprop(Transfers.MayWaits (VT d i) (default : HIx 1) O ∗ xAll d X (tileNo i) ∗ inFree d i 0 ∗ inFree d i 1 ∗ oAll d (tileNo i) f
        ∗ outFree d i 0 ∗ outFree d i 1 ∗ Owing d i O W)
      ⊢ iprop((tripInv d i X f O W (tileNo i) 25 -∗ Q ⟨24#32, 0#32, 0#32, 0#32, chk8_of i h1⟩)
        -∗ wp frame (wpE (defs₀ (F := F)) 𝒱₀ (VT d i) none) Set.univ (k0_part8 (F := F) i xM (Memref.isWhole_whole _) oM (Memref.isWhole_whole _) iM (Memref.isWhole_whole _) cc0_scoped1 uM (Memref.isWhole_whole _) cc0_scoped3 1#32 (BitVec.ofNat 32 (tileNo i)) 25#32 h1 25#32 v24 v42 v45) Q) := by
  rw [k0_part8_eq_skeleton]
  unfold k0_part8_skel
  iintro ⟨#Hmw, Hx, HI0, HI1, Ho, HU0, HU1, HO⟩ Hk
  sl_whnfR []
  iapply (first_fetch d i X (cond2_of i h1) (off2_eq i h1) k0_off1_eq k0_off3_eq _ _ _
    (fun _ => View.wordExact_bits rfl) (fun _ => (View.wordExact_bits rfl).reshape _ _) (fun _ => ⟨Or.inl rfl, trivial⟩)) $$ [Hx HI0]
  · isplitl [Hx]; · iexact Hx
    iexact HI0
  iintro ⟨Hx, HI0⟩
  sl_whnfR []
  iapply (Scf.wp_for_bind frame (wpE (defs₀ (F := F)) 𝒱₀ (VT d i) none) Set.univ _ _ _ (k0_t1_ok i h1) (stWords 0) _
    (fun k acc => iprop(⌜acc = stWords k⌝ ∗ tripInv d i X f O W (tileNo i) k)) ?_) $$ [Hx HI0 HI1 Ho HU0 HU1 HO]
  · intro t acc
    iintro ⟨%e, H⟩
    subst e
    iapply (trip_spec d i X f O W h1 t) $$ H
    iintro H
    isplitr
    · ipureintro; rfl
    iexact H
  · isplitr
    · ipureintro; rfl
    unfold tripInv
    isplitr; · iexact Hmw
    isplitl [Hx]; · iexact Hx
    isplitl [HI0]; · iexact HI0
    isplitl [HI1]; · iexact HI1
    isplitl [Ho]; · rw [oRest_start]; iexact Ho
    isplitl [HU1]; · rw [outP, if_neg (lt_irrefl 0)]; iexact HU1
    isplitl [HU0]; · iexact HU0
    iexact HO
  iintro %acc ⟨%e, H⟩
  rw [show Scf.trips (k0_t1_loop i).lb (k0_t1_loop i).ub (k0_t1_loop i).st = 25 from trips1 i h1, stWords_end] at *
  subst e
  dsimp only
  iapply (Scf.wp_for_bind frame (wpE (defs₀ (F := F)) 𝒱₀ (VT d i) none) Set.univ _ _ _ (k0_t4_ok i h1) _ _
    (fun k acc => iprop(⌜acc = (25#32, 25#32, 25#32, 24#32, 0#32, 0#32, 0#32)⌝ ∗ tripInv d i X f O W (tileNo i) 25)) ?_) $$ [H]
  · intro t acc
    exact absurd (lt_of_lt_of_eq t.isLt (trips4 i)) (Nat.not_lt_zero _)
  · isplitr
    · ipureintro; rfl
    iexact H
  iintro %acc ⟨%e, H⟩
  subst e
  dsimp only
  rw [wp_bind]
  iapply (wp_assume 𝒱₀ (VT d i) none Set.univ (chk8_of i h1))
  sl_step
  sl_step
  iapply Hk
  iexact H

/-- A working tile's number of slots is one. -/
theorem word5 : ∀ i : grid0.Coords, k0_cond1 i = 1#1 →
    Scalar.select (Scalar.cmpi .slt (Scalar.addi (Scalar.addi 0#32 (Scalar.muli (BitVec.ofNat 32 (i 1).val) 1#32)) (Scalar.muli (BitVec.ofNat 32 (i 0).val) 16#32)) 26#32)
      1#32 0#32 = 1#32 := by decide +kernel
/-- A working tile's first slot is its number. -/
theorem word10 : ∀ i : grid0.Coords, k0_cond1 i = 1#1 →
    Scalar.select (Scalar.cmpi .slt (Scalar.addi (Scalar.addi 0#32 (Scalar.muli (BitVec.ofNat 32 (i 1).val) 1#32)) (Scalar.muli (BitVec.ofNat 32 (i 0).val) 16#32)) 26#32)
      (Scalar.muli (Scalar.addi (Scalar.addi 0#32 (Scalar.muli (BitVec.ofNat 32 (i 1).val) 1#32)) (Scalar.muli (BitVec.ofNat 32 (i 0).val) 16#32)) 1#32)
      (Scalar.addi (Scalar.muli (Scalar.addi (Scalar.addi 0#32 (Scalar.muli (BitVec.ofNat 32 (i 1).val) 1#32)) (Scalar.muli (BitVec.ofNat 32 (i 0).val) 16#32)) 0#32) 26#32)
      = BitVec.ofNat 32 (tileNo i) := by decide +kernel

/-- The tile's program, kept folded. -/
@[irreducible] def tileProg : Prog (TpuEff nD τ sig (Elt F) Λ₀ (VT d i).2) Unit :=
  cc0__sc_kernel_body (F := F) i xM (Memref.isWhole_whole _) oM (Memref.isWhole_whole _) iM (Memref.isWhole_whole _) cc0_scoped1 uM (Memref.isWhole_whole _) cc0_scoped3

theorem tileProg_eq : tileProg (F := F) d i
    = cc0__sc_kernel_body (F := F) i xM (Memref.isWhole_whole _) oM (Memref.isWhole_whole _) iM (Memref.isWhole_whole _) cc0_scoped1 uM (Memref.isWhole_whole _) cc0_scoped3 := by
  unfold tileProg; rfl

/-- The whole pipeline of a working tile: its slot of the features unchanged, its slot of the output at the bucket numbers,
    its buffers free again. -/
theorem tile_run (O : CellTallies nD τ sig (HIx 1)) (W : Waits sig (HIx 1)) (h1 : k0_cond1 i = 1#1) (Q : Unit → sProp 𝕄) :
    iprop(Transfers.MayWaits (VT d i) (default : HIx 1) O ∗ xAll d X (tileNo i) ∗ inFree d i 0 ∗ inFree d i 1 ∗ oAll d (tileNo i) f
        ∗ outFree d i 0 ∗ outFree d i 1 ∗ Owing d i O W)
      ⊢ iprop((iprop(xAll d X (tileNo i) ∗ inFree d i 0 ∗ inFree d i 1 ∗ oAll d (tileNo i) (bucketed X) ∗ outFree d i 0 ∗ outFree d i 1 ∗ Owing d i O W) -∗ Q ⟨⟩)
        -∗ wp frame (wpE (defs₀ (F := F)) 𝒱₀ (VT d i) none) Set.univ (tileProg d i) Q) := by
  rw [tileProg_eq, cc0__sc_kernel_body_eq_skeleton]
  unfold cc0__sc_kernel_body_skel
  iintro ⟨#Hmw, Hx, HI0, HI1, Ho, HU0, HU1, HO⟩ Hk
  sl_whnfR []
  rw [dif_pos h1]
  rw [word5 i h1, word10 i h1]
  rw [wp_bind, k0_part7_eq_skeleton]
  unfold k0_part7_skel
  sl_whnfR []
  sl_step
  sl_whnfR []
  rw [wp_bind]
  iapply (part8_spec d i X f O W h1 _ _ _) $$ [Hx HI0 HI1 Ho HU0 HU1 HO]
  · isplitr; · iexact Hmw
    isplitl [Hx]; · iexact Hx
    isplitl [HI0]; · iexact HI0
    isplitl [HI1]; · iexact HI1
    isplitl [Ho]; · iexact Ho
    isplitl [HU0]; · iexact HU0
    isplitl [HU1]; · iexact HU1
    iexact HO
  unfold tripInv
  iintro ⟨-, Hx, HI1, HI0, Ho, HU0, HU1, HO⟩
  sl_whnfR []
  rw [wp_bind, k0_part9_eq_skeleton]
  unfold k0_part9_skel
  rw [wp_bind]
  iapply (wp_assume 𝒱₀ (VT d i) none Set.univ (chk7_of i h1))
  sl_step
  sl_whnfR []
  sl_step
  sl_whnfR []
  rw [wp_bind, k0_part10_eq_skeleton]
  unfold k0_part10_skel
  sl_whnfR []
  rw [dite_eq_ite, ite_self]
  sl_whnfR []
  sl_step
  sl_whnfR []
  rw [dif_pos (cond18_of i h1)]
  iapply (last_written d i X f O W off38_eq _ _ _ ((View.wordExact_bits rfl).reshape _ _) (View.wordExact_bits rfl)) $$ [Ho HU0 HO]
  · isplitr; · iexact Hmw
    isplitl [Ho]; · iexact Ho
    isplitl [HU0]; · iexact HU0
    iexact HO
  iintro ⟨Ho, HU0, HO⟩
  sl_whnfR []
  sl_step
  iapply Hk
  isplitl [Hx]; · rw [← xRest_end]; iexact Hx
  isplitl [HI0]; · iexact HI0
  isplitl [HI1]; · iapply (Entails.of_eq (inP_end d i X (tileNo i))); iexact HI1
  isplitl [Ho]; · iexact Ho
  isplitl [HU0]; · iexact HU0
  isplitl [HU1]; · iexact HU1
  iexact HO

/-- A tile without a slot does nothing. -/
theorem tile_idle (h1 : ¬ k0_cond1 i = 1#1) (Q : Unit → sProp 𝕄) :
    Q ⟨⟩ ⊢ wp frame (wpE (defs₀ (F := F)) 𝒱₀ (VT d i) none) Set.univ (tileProg d i) Q := by
  rw [tileProg_eq, cc0__sc_kernel_body_eq_skeleton]
  unfold cc0__sc_kernel_body_skel
  iintro HQ
  sl_whnfR []
  rw [dif_neg h1]
  sl_whnfR []
  sl_step
  iexact HQ

end Cert.Proof.Bucket

end

end
-- ==== Proof.Body.lean ====
/- A tile from what the launch deals it to what it hands back: its slot of the two arrays cut into blocks, its two
   buffers cut into slots, its four transfer semaphores, and the tile program between. -/
module

public import proofs.«01_k».proof.Proof.Tile

@[expose] public section

set_option maxRecDepth 4096

noncomputable section

namespace Cert.Proof.Bucket

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

/-! ## The pieces -/

/-- The blocks of a slot are disjoint. -/
theorem blk_disjoint (n : ℕ) : ∀ u ∈ Finset.range 25, ∀ v ∈ Finset.range 25, u ≠ v → Disjoint (blkSet n u) (blkSet n v) := by
  intro u _ v _ huv
  rw [Finset.disjoint_left]
  intro z hz hz'
  exact huv ((Finset.mem_filter.mp hz).2.2.symm.trans (Finset.mem_filter.mp hz').2.2)

/-- The twenty-five blocks make up the slot. -/
theorem blk_cover (n : ℕ) : (Finset.range 25).biUnion (blkSet n) = slabSet n := by
  ext z
  have h1 : (z 1).val < 200 := (z 1).isLt
  rw [Finset.mem_biUnion, slabSet, Finset.mem_filter]
  constructor
  · rintro ⟨u, -, hz⟩
    exact ⟨Finset.mem_univ z, (Finset.mem_filter.mp hz).2.1⟩
  · rintro ⟨-, hz⟩
    exact ⟨(z 1).val / 8, Finset.mem_range.mpr (by omega), Finset.mem_filter.mpr ⟨Finset.mem_univ z, hz, rfl⟩⟩

/-- There is no slot 26 or above. -/
theorem slab_empty {n : ℕ} (hn : 26 ≤ n) : slabSet n = ∅ := by
  refine Finset.filter_eq_empty_iff.mpr fun z _ h => ?_
  have h0 : (z 0).val < 26 := (z 0).isLt
  omega

/-- The two slots of a tile buffer are disjoint. -/
theorem slot_disjoint : ∀ s ∈ Finset.range 2, ∀ t ∈ Finset.range 2, s ≠ t → Disjoint (slotSet s) (slotSet t) := by
  intro s _ t _ hst
  rw [Finset.disjoint_left]
  intro y hy hy'
  exact hst ((Finset.mem_filter.mp hy).2.symm.trans (Finset.mem_filter.mp hy').2)

/-- The two slots make up the tile buffer. -/
theorem slot_cover : (Finset.range 2).biUnion slotSet = Finset.univ := by
  refine Finset.eq_univ_of_forall fun y => Finset.mem_biUnion.mpr ?_
  exact ⟨(y 0).val, Finset.mem_range.mpr (y 0).isLt, Finset.mem_filter.mpr ⟨Finset.mem_univ y, rfl⟩⟩

theorem range_two (Φ : ℕ → sProp 𝕄) : bigSep (Finset.range 2) Φ = iprop(Φ 0 ∗ Φ 1) := by
  rw [show Finset.range 2 = {0, 1} by decide, SparseCore.bigSep_insert' (by decide), bigSep_singleton]

variable (d : Dev nD) (i : grid0.Coords)

/-- A slot of the features, with the tile whose slot it is. -/
abbrev xSlab (X : Buf (Elt F) (xLoc d)) (n : ℕ) : sProp 𝕄 := xLoc d ↦[slabSet n]{fullShare} X
/-- A slot of the bucket numbers, with the tile whose slot it is. -/
abbrev oSlab (f : Buf (Elt F) (oLoc d)) (n : ℕ) : sProp 𝕄 := oLoc d ↦[slabSet n]{fullShare} f

theorem xSlab_blocks (X : Buf (Elt F) (xLoc d)) (n : ℕ) : xSlab d X n = xAll d X n := by
  unfold xSlab xAll
  rw [← blk_cover n]
  exact pointsTo_biUnion (ℓ := xLoc d) (Finset.range 25) (blkSet n) (blk_disjoint n)
theorem oSlab_blocks (f : Buf (Elt F) (oLoc d)) (n : ℕ) : oSlab d f n = oAll d n f := by
  unfold oSlab oAll
  rw [← blk_cover n]
  exact pointsTo_biUnion (ℓ := oLoc d) (Finset.range 25) (blkSet n) (blk_disjoint n)

/-- The fetch buffer is its two slots. -/
theorem iBuf_split (A : Buf (Elt F) (iLoc d i)) : (iLoc d i ↦{fullShare} A : sProp 𝕄) = iprop(iSlot d i 0 A ∗ iSlot d i 1 A) := by
  rw [← range_two (fun s => iSlot d i s A), ← pointsTo_biUnion (ℓ := iLoc d i) (Finset.range 2) slotSet slot_disjoint, slot_cover]
/-- The computed buffer is its two slots. -/
theorem uBuf_split (B : Buf (Elt F) (uLoc d i)) : (uLoc d i ↦{fullShare} B : sProp 𝕄) = iprop(uSlot d i 0 B ∗ uSlot d i 1 B) := by
  rw [← range_two (fun s => uSlot d i s B), ← pointsTo_biUnion (ℓ := uLoc d i) (Finset.range 2) slotSet slot_disjoint, slot_cover]
/-- Two slots of the fetch buffer, each at its own contents, are the buffer at some contents. -/
theorem iBuf_join (A B : Buf (Elt F) (iLoc d i)) : iprop(iSlot d i 0 A ∗ iSlot d i 1 B) ⊢ (iprop(∃ C, iLoc d i ↦{fullShare} C) : sProp 𝕄) := by
  have e : iprop(iSlot d i 0 A ∗ iSlot d i 1 B) = bigSep (Finset.range 2) fun s => (iLoc d i ↦[slotSet s]{fullShare} (fun s => if s = 0 then A else B) s : sProp 𝕄) :=
    (range_two (fun s => (iLoc d i ↦[slotSet s]{fullShare} (fun s => if s = 0 then A else B) s : sProp 𝕄))).symm
  iintro H
  ihave H1 := (Entails.of_eq e) $$ H
  ihave H2 := (pointsTo_biUnion_join (ℓ := iLoc d i) (q := fullShare) (Val := Elt F) (Finset.range 2) slotSet (fun s => if s = 0 then A else B) A slot_disjoint) $$ H1
  icases H2 with ⟨%g, -, Hg⟩
  rw [slot_cover]
  iexists g; iexact Hg
/-- Two slots of the computed buffer, each at its own contents, are the buffer at some contents. -/
theorem uBuf_join (A B : Buf (Elt F) (uLoc d i)) : iprop(uSlot d i 0 A ∗ uSlot d i 1 B) ⊢ (iprop(∃ C, uLoc d i ↦{fullShare} C) : sProp 𝕄) := by
  have e : iprop(uSlot d i 0 A ∗ uSlot d i 1 B) = bigSep (Finset.range 2) fun s => (uLoc d i ↦[slotSet s]{fullShare} (fun s => if s = 0 then A else B) s : sProp 𝕄) :=
    (range_two (fun s => (uLoc d i ↦[slotSet s]{fullShare} (fun s => if s = 0 then A else B) s : sProp 𝕄))).symm
  iintro H
  ihave H1 := (Entails.of_eq e) $$ H
  ihave H2 := (pointsTo_biUnion_join (ℓ := uLoc d i) (q := fullShare) (Val := Elt F) (Finset.range 2) slotSet (fun s => if s = 0 then A else B) A slot_disjoint) $$ H1
  icases H2 with ⟨%g, -, Hg⟩
  rw [slot_cover]
  iexists g; iexact Hg

/-- Transfer semaphore `k` of the tile's four. -/
abbrev dsem (k : Fin 4) : GSem nD τ sig := (VT d i, .dma (⟨k.val, k.isLt⟩ : DmaSem sig))

theorem dsem_mem (k : Fin 4) : dsem d i k ∈ ownCells (VT d i) :=
  mem_ownCells.mpr ⟨rfl, (show ∀ s : DmaSem sig, (SemLoc.dma s : SemLoc sig).isScoped .scVector = true by decide) _⟩

/-- The tile's semaphores that its program does not name. -/
abbrev semRest : sProp 𝕄 := bigSep (ownCells (VT d i) \ Finset.univ.image (dsem d i)) fun g => semVal g 0
/-- The tile's own semaphores are its four transfer semaphores and the rest. -/
theorem own_sems :
    (ownSems0 (VT d i) : sProp 𝕄)
      = iprop((semVal (VT d i, .dma (inSem 0)) 0 ∗ semVal (VT d i, .dma (inSem 1)) 0
          ∗ semVal (VT d i, .dma (outSem 0)) 0 ∗ semVal (VT d i, .dma (outSem 1)) 0) ∗ semRest d i) := by
  unfold SparseCore.Cfg.ownSems0
  rw [SparseCore.bigSep_sdiff_split' (t := Finset.univ.image (dsem d i)) (Finset.image_subset_iff.mpr fun k _ => dsem_mem d i k),
    SparseCore.bigSep_image_of_injOn (fun a _ b _ h => by
      have := congrArg (fun g : GSem nD τ sig => g.2) h
      simp only [SemLoc.dma.injEq, Fin.mk.injEq] at this; exact Fin.ext this)]
  rw [show (Finset.univ : Finset (Fin 4)) = {0, 1, 2, 3} by decide,
    SparseCore.bigSep_insert' (by decide), SparseCore.bigSep_insert' (by decide), SparseCore.bigSep_insert' (by decide), bigSep_singleton]
  rfl

/-- The tile's buffers that its program does not name. -/
abbrev bufRest : sProp 𝕄 :=
  bigSep (((ownRefs (τ := τ) (.scVector (cV i) (jV i))).erase ((Proc.scVector (cV i) (jV i)).devRef cc0_scoped0)).erase
      ((Proc.scVector (cV i) (jV i)).devRef cc0_scoped2))
    fun b => iprop(∃ f, ((d, b) : Loc nD τ sig) ↦{fullShare} f)
/-- The tile's own buffers are its two tile buffers and the rest. -/
theorem own_bufs :
    (ownBufs (VT d i) : sProp 𝕄)
      = iprop((∃ A, iLoc d i ↦{fullShare} A) ∗ (∃ B, uLoc d i ↦{fullShare} B) ∗ bufRest d i) := by
  unfold SparseCore.Cfg.ownBufs
  refine (SparseCore.bigSep_erase' (SparseCore.Cfg.mem_ownRefs_of_owner (p := Proc.scVector (cV i) (jV i))
    (b := (Proc.scVector (cV i) (jV i)).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV i) (jV i)) (b := (Proc.scVector (cV i) (jV i)).devRef cc0_scoped2) rfl⟩)]

/-! ## The tile -/

variable [FloatOps F] (X : Buf (Elt F) (xLoc d)) (f : Buf (Elt F) (oLoc d))

/-- A tile, from its slot of the two arrays, its own buffers and semaphores: its slot of the output ends at the bucket
    numbers, its slot of the features is as it was, its buffers and semaphores are given back. -/
structure TileRuns (O : CellTallies nD τ sig (HIx 1)) (W : Waits sig (HIx 1)) : Prop where
  run : iprop(levAts (K (F := F)).L (K (F := F)).lev ∗ emp ∗ (xSlab d X (tileNo i) ∗ oSlab d f (tileNo i))
        ∗ scopedBufs (VT d i) ∗ scopedSems0 (VT d i) ∗ owes (VT d i) O W)
      ⊢ wp frame (wpE (defs₀ (F := F)) 𝒱₀ (VT d i) none) Set.univ
          (tileProg d i)
          fun _ => iprop((xSlab d X (tileNo i) ∗ oSlab d (bucketed X) (tileNo i))
            ∗ scopedBufs (VT d i) ∗ scopedSems0 (VT d i)
            ∗ ∃ W', ⌜∀ p ∈ W', p ∈ W ∨ p.2 = none ∨ p.2 = some (0 : Fin 1)⌝ ∗ owes (VT d i) O W')

/-- So runs a tile that has a slot. -/
theorem tile_works (hF : (K (F := F)).Facts) (O : CellTallies nD τ sig (HIx 1)) (W : Waits sig (HIx 1)) (hO : ∀ g, O g none = 0)
    (h1 : k0_cond1 i = 1#1) : TileRuns d i X f O W := by
  constructor

  rw [(K (F := F)).scopedBufs_V hF d (cV i) (jV i), SparseCore.Cfg.scopedSems0_V (Val := Elt F) d (cV i) (jV i)]
  rw [own_sems, own_bufs, xSlab_blocks, oSlab_blocks, oSlab_blocks]
  iintro ⟨#Hlv, -, ⟨Hx, Ho⟩, ⟨⟨%A, HA⟩, ⟨%B, HB⟩, Hbufs⟩, ⟨⟨HI0, HI1, HU0, HU1⟩, Hsems⟩, HO⟩
  ihave Hmw := (show levAts (K (F := F)).L (K (F := F)).lev ⊢ Transfers.MayWaits (VT d i) (default : HIx 1) O from
    (K (F := F)).mayWaits_none (thr := VT d i) hO) $$ Hlv
  ihave HA' := (Entails.of_eq (iBuf_split d i A)) $$ HA
  icases HA' with ⟨HA0, HA1⟩
  ihave HB' := (Entails.of_eq (uBuf_split d i B)) $$ HB
  icases HB' with ⟨HB0, HB1⟩
  iapply (tile_run d i X f O W h1 _) $$ [Hmw Hx Ho HA0 HA1 HB0 HB1 HI0 HI1 HU0 HU1 HO]
  · isplitl [Hmw]; · iexact Hmw
    isplitl [Hx]; · iexact Hx
    isplitl [HA0 HI0]
    · isplitl [HA0]; · iexists A; iexact HA0
      iexact HI0
    isplitl [HA1 HI1]
    · isplitl [HA1]; · iexists A; iexact HA1
      iexact HI1
    isplitl [Ho]; · iexact Ho
    isplitl [HB0 HU0]
    · isplitl [HB0]; · iexists B; iexact HB0
      iexact HU0
    isplitl [HB1 HU1]
    · isplitl [HB1]; · iexists B; iexact HB1
      iexact HU1
    iexists W
    isplitr
    · ipureintro; exact fun p hp => .inl hp
    iexact HO
  iintro ⟨Hx, ⟨⟨%A0, HA0⟩, HI0⟩, ⟨⟨%A1, HA1⟩, HI1⟩, Ho, ⟨⟨%B0, HB0⟩, HU0⟩, ⟨⟨%B1, HB1⟩, HU1⟩, %W', %hW', HO⟩
  isplitl [Hx Ho]
  · isplitl [Hx]; · iexact Hx
    iexact Ho
  isplitl [HA0 HA1 HB0 HB1 Hbufs]
  · isplitl [HA0 HA1]
    · iapply (iBuf_join d i A0 A1)
      isplitl [HA0]; · iexact HA0
      iexact HA1
    isplitl [HB0 HB1]
    · iapply (uBuf_join d i B0 B1)
      isplitl [HB0]; · iexact HB0
      iexact HB1
    iexact Hbufs
  isplitl [HI0 HI1 HU0 HU1 Hsems]
  · isplitl [HI0 HI1 HU0 HU1]
    · isplitl [HI0]; · iexact HI0
      isplitl [HI1]; · iexact HI1
      isplitl [HU0]; · iexact HU0
      iexact HU1
    iexact Hsems
  iexists W'
  isplitr
  · ipureintro; exact fun p hp => (hW' p hp).imp_right Or.inl
  iexact HO

/-- So runs a tile that has none: it does nothing. -/
theorem tile_idles (hF : (K (F := F)).Facts) (O : CellTallies nD τ sig (HIx 1)) (W : Waits sig (HIx 1)) (hO : ∀ g, O g none = 0)
    (h1 : ¬ k0_cond1 i = 1#1) : TileRuns d i X f O W := by
  constructor

  rw [(K (F := F)).scopedBufs_V hF d (cV i) (jV i), SparseCore.Cfg.scopedSems0_V (Val := Elt F) d (cV i) (jV i)]
  have hn : 26 ≤ tileNo i := not_lt.mp fun h => h1 ((cond1_iff i).mpr h)
  have he : (oSlab d f (tileNo i) : sProp 𝕄) = oSlab d (bucketed X) (tileNo i) := by
    unfold oSlab; rw [slab_empty hn, pointsTo_empty, pointsTo_empty]
  rw [he]
  iintro ⟨-, -, Hxo, Hbufs, Hsems, HO⟩
  iapply (tile_idle d i h1 _)
  isplitl [Hxo]; · iexact Hxo
  isplitl [Hbufs]; · iexact Hbufs
  isplitl [Hsems]; · iexact Hsems
  iexists W
  isplitr
  · ipureintro; exact fun p hp => .inl hp
  iexact HO

/-- So runs every tile. -/
theorem tile_body (hF : (K (F := F)).Facts) (O : CellTallies nD τ sig (HIx 1)) (W : Waits sig (HIx 1)) (hO : ∀ g, O g none = 0) :
    TileRuns d i X f O W :=
  (Classical.em (k0_cond1 i = 1#1)).elim (tile_works d i X f hF O W hO) (tile_idles d i X f hF O W hO)

end Cert.Proof.Bucket

end

end
-- ==== Proof.Launch.lean ====
/- The launch: what the call deals the tiles and what comes back, the host's two transposes around it, and the run of the
   whole program with the value it leaves. -/
module

public import proofs.«01_k».proof.Proof.Body

@[expose] public section

set_option maxRecDepth 4096

noncomputable section

namespace Cert.Proof.Bucket

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

/-! ## The arrays of the host -/

variable (m : (ℓ : Loc nD τ sig) → Buf (Elt F) ℓ)

/-- The features, as the host is given them. -/
abbrev featLoc (d : Dev nD) : Loc nD τ sig := (SparseCore.T d).loc main_arg0
/-- The thresholds. -/
abbrev thrLoc (d : Dev nD) : Loc nD τ sig := (SparseCore.T d).loc main_arg1
/-- The result. -/
abbrev resLoc (d : Dev nD) : Loc nD τ sig := (SparseCore.T d).loc main_v2

/-- The features with the slots first, as the tiles read them. -/
def turned (d : Dev nD) : Buf (Elt F) (xLoc d) :=
  (transpose S26x200x4096 [2, 1, 0] (m (featLoc d) : (⟨S4096x200x26, .f32⟩ : BufTy).Contents (Elt F)) transposes_S4096x200x26_S26x200x4096_2_1_0 :
    (⟨S26x200x4096, .f32⟩ : BufTy).Contents (Elt F))
/-- What the program leaves as its result: the bucket numbers of the turned features, turned back. -/
def outcome [FloatOps F] (d : Dev nD) : Buf (Elt F) (resLoc d) :=
  (transpose S4096x200x26 [2, 1, 0] (bucketed (turned m d) : (⟨S26x200x4096, .i32⟩ : BufTy).Contents (Elt F)) transposes_S26x200x4096_S4096x200x26_2_1_0 :
    (⟨S4096x200x26, .i32⟩ : BufTy).Contents (Elt F))

/-! ## What the call deals -/

theorem nCore_zero : (K (F := F)).nCore 0 = 2 := rfl
theorem nSub_zero : (K (F := F)).nSub 0 = 16 := rfl

/-- What tile `s` of SparseCore `c` is dealt: its slot of the features and of the output. -/
abbrev dealt (d : Dev nD) (c s : ℕ) : sProp 𝕄 := iprop(xSlab d (turned m d) (s + 16 * c) ∗ oSlab d (m (oLoc d)) (s + 16 * c))
/-- What it gives back: the same, its slot of the output at the bucket numbers. -/
abbrev given [FloatOps F] (d : Dev nD) (c s : ℕ) : sProp 𝕄 := iprop(xSlab d (turned m d) (s + 16 * c) ∗ oSlab d (bucketed (turned m d)) (s + 16 * c))

variable [FloatOps F]

/-- The one call: each SparseCore takes what its sixteen tiles are dealt and brings back what they give. -/
def P : (K (F := F)).Pay (nD := nD) (Val := Elt F) (Name := ℕ) (U := UU) where
  st := fun q d c => match q with | 0 => bigSep Finset.univ fun s : Fin 16 => dealt m d c.val s.val
  dn := fun q d c => match q with | 0 => bigSep Finset.univ fun s : Fin 16 => given m d c.val s.val
  go := fun q d c s => match q with | 0 => dealt m d c.val s.val
  td := fun q d c s => match q with | 0 => given m d c.val s.val
  x := fun _ _ => iprop(emp)

instance P_storable : (P (F := F) m).IsStorable where
  st q d c := match q with
    | 0 => (inferInstance : BI.Storable (upEmb : UEmb _ 𝕄) (bigSep Finset.univ fun s : Fin 16 => dealt m d c.val s.val))
  dn q d c := match q with
    | 0 => (inferInstance : BI.Storable (upEmb : UEmb _ 𝕄) (bigSep Finset.univ fun s : Fin 16 => given m d c.val s.val))
  go q d c s := match q with
    | 0 => (inferInstance : BI.Storable (upEmb : UEmb _ 𝕄) (dealt m d c.val s.val))
  td q d c s := match q with
    | 0 => (inferInstance : BI.Storable (upEmb : UEmb _ 𝕄) (given m d c.val s.val))

/-! ## The tiles' obligation -/

/-- The coordinates of tile `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (d : Dev nD) (c : Fin τ.nSC) (s : Fin τ.nSub) :
    defs₀ (F := F) (.scVector c s) 0 ()
      = SparseCore.onTile hcore0 hsub0 (fun c s => cc0__sc_kernel_body (coordsV c s)
          xM (Memref.isWhole_whole _) oM (Memref.isWhole_whole _) iM (Memref.isWhole_whole _) cc0_scoped1 uM (Memref.isWhole_whole _) cc0_scoped3) ⟨⟩ c s := rfl

/-- Every tile keeps its part of the deal. -/
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector d]; simp only [SparseCore.onTile, hci, and_self, ↓reduceDIte]
  rw [← tileProg_eq d (coordsV ⟨_, hci.1⟩ ⟨_, hci.2⟩)]
  exact (tile_body d (coordsV ⟨_, hci.1⟩ ⟨_, hci.2⟩) (turned m d) (m (oLoc d)) hF O W hO).run

/-- A SparseCore's part is its tiles' parts. -/
theorem vecSplit : (K (F := F)).VecSplit' (P m) 0 := by
  intro d c
  show (bigSep (Finset.univ : Finset (Fin 16)) fun s => dealt m d c.val s.val) ⊢ |={Set.univ}=> iprop(
      (bigSep (Finset.univ : Finset (Fin 16)) fun s => dealt m d c.val s.val)
      ∗ ((bigSep (Finset.univ : Finset (Fin 16)) fun s => given m d c.val s.val)
          -∗ (bigSep (Finset.univ : Finset (Fin 16)) fun s => given m d c.val s.val)))
  iintro H; imodintro
  isplitl [H]; · iexact H
  iintro H; iexact H

/-! ## The slots of the tiles make up the arrays -/

/-- The slot of tile `p.2` of SparseCore `p.1`. -/
abbrev slabOf (p : Fin 2 × Fin 16) : Finset S26x200x4096.Idx := slabSet (p.2.val + 16 * p.1.val)

theorem slab_disjoint : ∀ p ∈ (Finset.univ : Finset (Fin 2 × Fin 16)), ∀ q ∈ (Finset.univ : Finset (Fin 2 × Fin 16)), p ≠ q → Disjoint (slabOf p) (slabOf q) := by
  intro p _ q _ hpq
  rw [Finset.disjoint_left]
  intro z hz hz'
  have e := (Finset.mem_filter.mp hz).2.symm.trans (Finset.mem_filter.mp hz').2
  have := p.2.isLt; have := q.2.isLt
  exact hpq (Prod.ext (Fin.ext (by omega)) (Fin.ext (by omega)))

theorem slab_cover : (Finset.univ : Finset (Fin 2 × Fin 16)).biUnion slabOf = Finset.univ := by
  refine Finset.eq_univ_of_forall fun z => Finset.mem_biUnion.mpr ?_
  have h0 : (z 0).val < 26 := (z 0).isLt
  refine ⟨(⟨(z 0).val / 16, by omega⟩, ⟨(z 0).val % 16, by omega⟩), Finset.mem_univ _, Finset.mem_filter.mpr ⟨Finset.mem_univ z, ?_⟩⟩
  show (z 0).val = (z 0).val % 16 + 16 * ((z 0).val / 16)
  omega

theorem x_slabs (d : Dev nD) (f : Buf (Elt F) (xLoc d)) :
    (xLoc d ↦{fullShare} f : sProp 𝕄) = bigSep Finset.univ fun p : Fin 2 × Fin 16 => xSlab d f (p.2.val + 16 * p.1.val) := by
  rw [← pointsTo_biUnion (ℓ := xLoc d) Finset.univ slabOf slab_disjoint, slab_cover]
theorem o_slabs (d : Dev nD) (f : Buf (Elt F) (oLoc d)) :
    (oLoc d ↦{fullShare} f : sProp 𝕄) = bigSep Finset.univ fun p : Fin 2 × Fin 16 => oSlab d f (p.2.val + 16 * p.1.val) := by
  rw [← pointsTo_biUnion (ℓ := oLoc d) Finset.univ slabOf slab_disjoint, slab_cover]

/-- The two arrays whole are all tiles' slots of both. -/
theorem both_slabs (d : Dev nD) (f : Buf (Elt F) (xLoc d)) (g : Buf (Elt F) (oLoc d)) :
    (bigSep (Finset.univ : Finset (Fin 2)) fun c => bigSep (Finset.univ : Finset (Fin 16)) fun s => iprop(xSlab d f (s.val + 16 * c.val) ∗ oSlab d g (s.val + 16 * c.val)))
      = (iprop((xLoc d ↦{fullShare} f) ∗ oLoc d ↦{fullShare} g) : sProp 𝕄) := by
  rw [x_slabs, o_slabs, ← bigSep_sep', BI.bigSep_univ_prod]

/-- What the call takes: the turned features and the output as it lies. -/
theorem st0_eq (d : Dev nD) : (bigSep Finset.univ fun c : Fin ((K (F := F)).nCore 0) => (P m).st 0 d c)
    = iprop((xLoc d ↦{fullShare} turned m d) ∗ oLoc d ↦{fullShare} m (oLoc d)) := both_slabs d _ _
/-- What it brings back: the turned features and their bucket numbers. -/
theorem dn0_eq (d : Dev nD) : (bigSep Finset.univ fun c : Fin ((K (F := F)).nCore 0) => (P m).dn 0 d c)
    = iprop((xLoc d ↦{fullShare} turned m d) ∗ oLoc d ↦{fullShare} bucketed (turned m d)) := both_slabs d _ _

/-! ## The launch element -/

def u₀ : UU := (initOf (K (F := F)).hsCells (K (F := F)).hsToks, 1)

theorem emp_all {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [emp_all]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), emp_all]
  iempintro

/-! ## The host -/

abbrev bF : DevRef τ sig := Proc.devRef .tc (main_arg0 : Ref sig .tc)
abbrev bT : DevRef τ sig := Proc.devRef .tc (main_arg1 : Ref sig .tc)
abbrev bX : DevRef τ sig := Proc.devRef .tc (main_v0 : Ref sig .tc)
abbrev bO : DevRef τ sig := Proc.devRef .tc (main_v1 : Ref sig .tc)
abbrev bR : DevRef τ sig := Proc.devRef .tc (main_v2 : Ref sig .tc)

/-- The transpose before the call. -/
abbrev opTurn : HloOp τ sig (Elt F) :=
  StableHlo.unary main_arg0 main_v0 ((transpose S26x200x4096 [2, 1, 0] · transposes_S4096x200x26_S26x200x4096_2_1_0) : (⟨S4096x200x26, .f32⟩ : BufTy).Contents (Elt F) → (⟨S26x200x4096, .f32⟩ : BufTy).Contents (Elt F))
/-- The transpose after it. -/
abbrev opBack : HloOp τ sig (Elt F) :=
  StableHlo.unary main_v1 main_v2 ((transpose S4096x200x26 [2, 1, 0] · transposes_S26x200x4096_S4096x200x26_2_1_0) : (⟨S26x200x4096, .i32⟩ : BufTy).Contents (Elt F) → (⟨S4096x200x26, .i32⟩ : BufTy).Contents (Elt F))

/-- The host's arrays. -/
abbrev S5 : Finset (DevRef τ sig) := {bF, bT, bX, bO, bR}

theorem held_S5 (d : Dev nD) (W : Valuation τ sig (Elt F)) :
    (held (T d) S5 W : sProp 𝕄) = iprop((featLoc d ↦{fullShare} W bF) ∗ (thrLoc d ↦{fullShare} W bT) ∗ (xLoc d ↦{fullShare} W bX)
      ∗ (oLoc d ↦{fullShare} W bO) ∗ resLoc d ↦{fullShare} W bR) := by
  unfold held S5
  rw [SparseCore.bigSep_insert' (by decide), SparseCore.bigSep_insert' (by decide), SparseCore.bigSep_insert' (by decide),
    SparseCore.bigSep_insert' (by decide), bigSep_singleton]

theorem unscopedBufs_eq (d : Dev nD) (W : (b : Ref sig .tc) → Buf (Elt F) ((d.tc : Thread nD τ).loc b)) :
    (unscopedBufs d W : sProp 𝕄) = iprop((featLoc d ↦{fullShare} W main_arg0) ∗ (thrLoc d ↦{fullShare} W main_arg1) ∗ (xLoc d ↦{fullShare} W main_v0)
      ∗ (oLoc d ↦{fullShare} W main_v1) ∗ resLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- The arrays at the launch. -/
def V0 (d : Dev nD) : Valuation τ sig (Elt F) := fun b => m (d, b)
/-- The arrays after the first transpose. -/
def V1 (d : Dev nD) : Valuation τ sig (Elt F) := (opTurn (F := F)).result (V0 m d)
/-- The arrays after the call. -/
def V2 (d : Dev nD) : Valuation τ sig (Elt F) := Function.update (V1 m d) bO (bucketed (turned m d) : Buf (Elt F) (oLoc d))

theorem unscoped_held (d : Dev nD) : (unscopedBufs d (fun b => m ((SparseCore.T d).loc b)) : sProp 𝕄) = held (T d) S5 (V0 m d) := by
  rw [unscopedBufs_eq, held_S5]; rfl

theorem V1_F (d : Dev nD) : V1 m d bF = m (featLoc d) := StableHlo.unary_result_ne _ _ _ _ _ _ (by decide)
theorem V1_T (d : Dev nD) : V1 m d bT = m (thrLoc d) := StableHlo.unary_result_ne _ _ _ _ _ _ (by decide)
theorem V1_X (d : Dev nD) : V1 m d bX = turned m d := StableHlo.unary_result _ _ _ _ _ _
theorem V1_O (d : Dev nD) : V1 m d bO = m (oLoc d) := StableHlo.unary_result_ne _ _ _ _ _ _ (by decide)
theorem V1_R (d : Dev nD) : V1 m d bR = m (resLoc d) := StableHlo.unary_result_ne _ _ _ _ _ _ (by decide)
theorem V2_F (d : Dev nD) : V2 m d bF = m (featLoc d) := (Function.update_of_ne (show bF ≠ bO by decide) _ _).trans (V1_F m d)
theorem V2_T (d : Dev nD) : V2 m d bT = m (thrLoc d) := (Function.update_of_ne (show bT ≠ bO by decide) _ _).trans (V1_T m d)
theorem V2_X (d : Dev nD) : V2 m d bX = turned m d := (Function.update_of_ne (show bX ≠ bO by decide) _ _).trans (V1_X m d)
theorem V2_O (d : Dev nD) : V2 m d bO = bucketed (turned m d) := Function.update_self _ _ _
theorem V2_R (d : Dev nD) : V2 m d bR = m (resLoc d) := (Function.update_of_ne (show bR ≠ bO by decide) _ _).trans (V1_R m d)
theorem V3_F (d : Dev nD) : (opBack (F := F)).result (V2 m d) bF = m (featLoc d) := (StableHlo.unary_result_ne _ _ _ _ _ _ (by decide)).trans (V2_F m d)
theorem V3_T (d : Dev nD) : (opBack (F := F)).result (V2 m d) bT = m (thrLoc d) := (StableHlo.unary_result_ne _ _ _ _ _ _ (by decide)).trans (V2_T m d)
theorem V3_R (d : Dev nD) : (opBack (F := F)).result (V2 m d) bR = outcome m d :=
  (StableHlo.unary_result _ _ _ _ _ _).trans (by rw [V2_O]; rfl)

theorem hTurn : (opTurn (F := F)).bufs ⊆ S5 := show ({bF, bX} : Finset (DevRef τ sig)) ⊆ S5 by decide
theorem hBack : (opBack (F := F)).bufs ⊆ S5 := show ({bO, bR} : Finset (DevRef τ sig)) ⊆ S5 by decide

/-- What the program leaves the claim: features and thresholds as they were, and the outcome. -/
abbrev FIN (d : Dev nD) : sProp 𝕄 :=
  iprop((featLoc d ↦{fullShare} m (featLoc d)) ∗ (thrLoc d ↦{fullShare} m (thrLoc d)) ∗ resLoc d ↦{fullShare} outcome m d)

variable (ρ : Dev nD → PrngReg)

/-- The host's program: the first transpose, the call, the second transpose. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opTurn) (S := S5) hTurn (V := V0 m d)) $$ [Hb Hheld]
  · isplitl [Hb]; · iexact Hb
    iexact Hheld
  iintro ⟨Hb, Hheld⟩
  ihave Hh := (Entails.of_eq (show held (T d) S5 ((opTurn (F := F)).result (V0 m d)) = _ from held_S5 (F := F) d (V1 m d))) $$ Hheld
  icases Hh with ⟨HF, HT, HX, HOut, HR⟩
  rw [wp_ret]; imodintro
  iapply ((K (F := F)).wp_run (D (F := F)) 𝒱 (EH := EH) (P := P m) κ d 0) $$ [Hst HX HOut Hb HF HT HR Hts]
  isplitr; · iexact Hctx
  isplitl [Hst]; · iexact Hst
  isplitl [HX HOut]
  · rw [st0_eq, V1_X, V1_O]
    isplitl [HX]; · iexact HX
    iexact HOut
  iintro ⟨Hst, Hdn⟩
  ihave Hdn' := (Entails.of_eq (dn0_eq m d)) $$ Hdn
  icases Hdn' with ⟨HX, HOut⟩
  iapply (wp_hlo_within 𝒱 (SparseCore.T d) none Set.univ (op := opBack) (S := S5) hBack (V := V2 m d)) $$ [Hb HF HT HX HOut HR]
  · isplitl [Hb]; · iexact Hb
    rw [held_S5, V2_F, V2_T, V2_X, V2_O, V2_R, V1_F, V1_T, V1_R]
    isplitl [HF]; · iexact HF
    isplitl [HT]; · iexact HT
    isplitl [HX]; · iexact HX
    isplitl [HOut]; · iexact HOut
    iexact HR
  iintro ⟨Hb, Hheld⟩
  ihave Hh := (Entails.of_eq (held_S5 (F := F) d ((opBack (F := F)).result (V2 m d)))) $$ Hheld
  rw [V3_F, V3_T, V3_R]
  icases Hh with ⟨HF, HT, -, -, HR⟩
  rw [wp_ret]; imodintro; imodintro
  isplitl [Hst]; · iexact Hst
  isplitl [HF HT HR]
  · isplitl [HF]; · iexact HF
    isplitl [HT]; · iexact HT
    iexact HR
  isplitl [Hb] <;> iassumption

/-- What the final memory of a device holds. -/
def fq (d : Dev nD) (s' : Phys nD τ sig (Elt F)) : Prop :=
  s'.mem.mem (featLoc d) = m (featLoc d) ∧ s'.mem.mem (thrLoc d) = m (thrLoc d) ∧ s'.mem.mem (resLoc d) = outcome m d

theorem hfin (d : Dev nD) (s' : Phys nD τ sig (Elt F)) : iprop(FIN m d ∗ SI s') ⊢ (⌜fq m d s'⌝ : sProp 𝕄) := by
  iintro ⟨⟨HF, HT, HR⟩, HSI⟩
  ihave H := (persistent_entails_right (SI_pointsTo_agree (st := s') (ℓ := featLoc d) (I := Finset.univ) (q := fullShare) (f := m (featLoc d)))) $$ [HSI HF]
  · isplitl [HSI] <;> iassumption
  icases H with ⟨%h1, HSI, -⟩
  ihave H := (persistent_entails_right (SI_pointsTo_agree (st := s') (ℓ := thrLoc d) (I := Finset.univ) (q := fullShare) (f := m (thrLoc d)))) $$ [HSI HT]
  · isplitl [HSI] <;> iassumption
  icases H with ⟨%h2, HSI, -⟩
  ihave H := (SI_pointsTo_agree (st := s') (ℓ := resLoc d) (I := Finset.univ) (q := fullShare) (f := outcome m d)) $$ [HSI HR]
  · isplitl [HSI] <;> iassumption
  icases H with %h3
  ipureintro
  exact ⟨funext fun j => h1 j (Finset.mem_univ j), funext fun j => h2 j (Finset.mem_univ j), funext fun j => h3 j (Finset.mem_univ j)⟩

/-- What every run of the program ends with: the arguments as they were, the outcome in the result, every semaphore at zero. -/
def Ends : PUnit × MemSt nD τ sig (Elt F) → Prop := fun r =>
  (∀ c : Dev nD, r.2.mem (featLoc c) = m (featLoc c) ∧ r.2.mem (thrLoc c) = m (thrLoc c) ∧ r.2.mem (resLoc c) = outcome m c) ∧ r.2.sem = fun _ => 0

/-- The run of the whole program, from any memory. -/
theorem run_main [∀ e, Nonempty (Elt F e)] :
    θ_run (Cert.KernelIdeal.defs (F := F)) (Cert.KernelIdeal.threads (F := F)) ⟨m, fun _ => 0, ρ⟩ (Ends m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (Ends m) (fun _ h hz => ⟨h, hz⟩)

end Cert.Proof.Bucket

end

end
-- ==== Proof.RefRun.lean ====
/-
  The run of the reference (`Cert.ReferenceIdeal`), for any float values: a straight line of host operations, so every
  fair execution ends with each buffer at the fold of the operations over the launch contents. `verdict` names the
  composed value of the result buffer: the comparisons with the thresholds (`hits`), the weights `17 - k` (`weight`),
  their product (`score`), the position of its greatest entry, and the choice of 17 where nothing was hit.
-/
module

public import proofs.«01_k».proof.Defs
public import proofs.«01_k».proof.Proof.Gen.ReferenceIdeal
public import Idealize.ShloMosaic.Lib.StableHlo.Run
public import Idealize.ShloMosaic.Lib.Quiescent

@[expose] public section

noncomputable section

namespace Cert.Proof.Bucket.Ref

open Cert.ReferenceIdeal Cert.ReferenceIdeal.Gen
open Idealize.ShloMosaic Idealize.ShloMosaic.TcCoe Idealize.ShloMosaic.StableHlo Idealize.SL.Sem

variable {F : FTy → Type} [FloatOps F]

/-- Whether each feature is below each of its slot's seventeen thresholds. -/
def hits (x : FVec F S4096x200x26 .f32) (t : FVec F S442 .f32) : IVec S4096x200x26x17 1 :=
  cmpf .olt
    (broadcastInDim S4096x200x26x17 ![0, 1, 2, 3] bcast_S4096x200x26x1_S4096x200x26x17_0_1_2_3
      (broadcastInDim S4096x200x26x1 ![0, 1, 2] bcast_S4096x200x26_S4096x200x26x1_0_1_2 x))
    (broadcastInDim S4096x200x26x17 ![0, 1, 2, 3] bcast_S1x1x26x17_S4096x200x26x17_0_1_2_3
      (shapeCast S1x1x26x17 t shapeCasts_S442_S1x1x26x17))

/-- The weight of threshold `k`: seventeen plus `-1` times `k`. -/
def weight : FVec F S17 .f32 :=
  addf (broadcastInDim S17 ![] bcast_S_S17 (constant S_ .f32 0x41880000#32))
    (mulf (broadcastInDim S17 ![] bcast_S_S17 (constant S_ .f32 0xBF800000#32)) (sitofp .f32 (iotaInDim S17 32 0)))

/-- Each comparison as a number, times its threshold's weight. -/
def score (x : FVec F S4096x200x26 .f32) (t : FVec F S442 .f32) : FVec F S4096x200x26x17 .f32 :=
  mulf (uitofp .f32 (hits x t))
    (broadcastInDim S4096x200x26x17 ![0, 1, 2, 3] bcast_S1x1x1x17_S4096x200x26x17_0_1_2_3
      (shapeCast S1x1x1x17 (weight (F := F)) shapeCasts_S17_S1x1x1x17))

/-- Whether a feature is below any of its thresholds. -/
def anyHit (x : FVec F S4096x200x26 .f32) (t : FVec F S442 .f32) : IVec S4096x200x26 1 :=
  Host.reduce IntOp.ori (hits x t) (constantI S_ 1 0#1) reducesTo_S4096x200x26x17_S4096x200x26_d3 h_S_

/-- The position of the greatest score among a feature's seventeen. -/
def best (x : FVec F S4096x200x26 .f32) (t : FVec F S442 .f32) : IVec S4096x200x26 32 := fun j =>
  (Host.argReduce reducer_argmax_f32_i32 (score x t) (iotaInDim S4096x200x26x17 32 3)
    (constant (F := F) S_ .f32 0xFF800000#32) (constantI S_ 32 0#32) reducesTo_S4096x200x26x17_S4096x200x26_d3 h_S_ j).2

/-- The reference's result: that position, or 17 where nothing was hit. -/
def verdict (x : FVec F S4096x200x26 .f32) (t : FVec F S442 .f32) : IVec S4096x200x26 32 :=
  select (anyHit x t) (best x t) (broadcastInDim S4096x200x26 ![] bcast_S_S4096x200x26 (constantI S_ 32 17#32))

/-- The reference's operations, in order, the two called functions' in place of their calls. -/
abbrev ops : List (HloOp τ sig (Elt F)) :=
  [ reshape main_arg1 main_v0 (rfl : (.f32 : EltTy) = .f32) shapeCasts_S442_S1x1x26x17,
    unary main_arg0 main_v1 (broadcastInDim S4096x200x26x1 ![0, 1, 2] bcast_S4096x200x26_S4096x200x26x1_0_1_2 : (⟨S4096x200x26, .f32⟩ : BufTy).Contents (Elt F) → (⟨S4096x200x26x1, .f32⟩ : BufTy).Contents (Elt F)),
    unary main_v1 main_v2 (broadcastInDim S4096x200x26x17 ![0, 1, 2, 3] bcast_S4096x200x26x1_S4096x200x26x17_0_1_2_3 : (⟨S4096x200x26x1, .f32⟩ : BufTy).Contents (Elt F) → (⟨S4096x200x26x17, .f32⟩ : BufTy).Contents (Elt F)),
    unary main_v0 main_v3 (broadcastInDim S4096x200x26x17 ![0, 1, 2, 3] bcast_S1x1x26x17_S4096x200x26x17_0_1_2_3 : (⟨S1x1x26x17, .f32⟩ : BufTy).Contents (Elt F) → (⟨S4096x200x26x17, .f32⟩ : BufTy).Contents (Elt F)),
    binary main_v2 main_v3 main_v4 (cmpf .olt : (⟨S4096x200x26x17, .f32⟩ : BufTy).Contents (Elt F) → (⟨S4096x200x26x17, .f32⟩ : BufTy).Contents (Elt F) → (⟨S4096x200x26x17, .i1⟩ : BufTy).Contents (Elt F)),
    nullary main_c (constantI S_ 1 0#1),
    binary main_v4 main_c main_v5 ((fun x v => Host.reduce IntOp.ori x v reducesTo_S4096x200x26x17_S4096x200x26_d3 h_S_) : (⟨S4096x200x26x17, .i1⟩ : BufTy).Contents (Elt F) → (⟨S_, .i1⟩ : BufTy).Contents (Elt F) → (⟨S4096x200x26, .i1⟩ : BufTy).Contents (Elt F)),
    nullary main_v6 (sitofp .f32 (iotaInDim S17 32 0)),
    nullary main_cst (constant S_ .f32 0xBF800000#32),
    unary main_cst main_v7 (broadcastInDim S17 ![] bcast_S_S17 : (⟨S_, .f32⟩ : BufTy).Contents (Elt F) → (⟨S17, .f32⟩ : BufTy).Contents (Elt F)),
    binary main_v7 main_v6 main_v8 (mulf : (⟨S17, .f32⟩ : BufTy).Contents (Elt F) → (⟨S17, .f32⟩ : BufTy).Contents (Elt F) → (⟨S17, .f32⟩ : BufTy).Contents (Elt F)),
    nullary main_cst_0 (constant S_ .f32 0x41880000#32),
    unary main_cst_0 main_v9 (broadcastInDim S17 ![] bcast_S_S17 : (⟨S_, .f32⟩ : BufTy).Contents (Elt F) → (⟨S17, .f32⟩ : BufTy).Contents (Elt F)),
    binary main_v9 main_v8 main_v10 (addf : (⟨S17, .f32⟩ : BufTy).Contents (Elt F) → (⟨S17, .f32⟩ : BufTy).Contents (Elt F) → (⟨S17, .f32⟩ : BufTy).Contents (Elt F)),
    reshape main_v10 main_v11 (rfl : (.f32 : EltTy) = .f32) shapeCasts_S17_S1x1x1x17,
    unary main_v4 main_v12 (uitofp .f32 : (⟨S4096x200x26x17, .i1⟩ : BufTy).Contents (Elt F) → (⟨S4096x200x26x17, .f32⟩ : BufTy).Contents (Elt F)),
    unary main_v11 main_v13 (broadcastInDim S4096x200x26x17 ![0, 1, 2, 3] bcast_S1x1x1x17_S4096x200x26x17_0_1_2_3 : (⟨S1x1x1x17, .f32⟩ : BufTy).Contents (Elt F) → (⟨S4096x200x26x17, .f32⟩ : BufTy).Contents (Elt F)),
    binary main_v12 main_v13 main_v14 (mulf : (⟨S4096x200x26x17, .f32⟩ : BufTy).Contents (Elt F) → (⟨S4096x200x26x17, .f32⟩ : BufTy).Contents (Elt F) → (⟨S4096x200x26x17, .f32⟩ : BufTy).Contents (Elt F)),
    nullary main_call0_v0 (iotaInDim S4096x200x26x17 32 3),
    nullary main_call0_cst (constant S_ .f32 0xFF800000#32),
    nullary main_call0_c (constantI S_ 32 0#32),
    quaternary main_v14 main_call0_v0 main_call0_cst main_call0_c main_call0_v1_0 ((fun x y u v j => (Host.argReduce reducer_argmax_f32_i32 x y u v reducesTo_S4096x200x26x17_S4096x200x26_d3 h_S_ j).1) : (⟨S4096x200x26x17, .f32⟩ : BufTy).Contents (Elt F) → (⟨S4096x200x26x17, .i32⟩ : BufTy).Contents (Elt F) → (⟨S_, .f32⟩ : BufTy).Contents (Elt F) → (⟨S_, .i32⟩ : BufTy).Contents (Elt F) → (⟨S4096x200x26, .f32⟩ : BufTy).Contents (Elt F)),
    quaternary main_v14 main_call0_v0 main_call0_cst main_call0_c main_v15 ((fun x y u v j => (Host.argReduce reducer_argmax_f32_i32 x y u v reducesTo_S4096x200x26x17_S4096x200x26_d3 h_S_ j).2) : (⟨S4096x200x26x17, .f32⟩ : BufTy).Contents (Elt F) → (⟨S4096x200x26x17, .i32⟩ : BufTy).Contents (Elt F) → (⟨S_, .f32⟩ : BufTy).Contents (Elt F) → (⟨S_, .i32⟩ : BufTy).Contents (Elt F) → (⟨S4096x200x26, .i32⟩ : BufTy).Contents (Elt F)),
    nullary main_c_1 (constantI S_ 32 17#32),
    unary main_c_1 main_v16 (broadcastInDim S4096x200x26 ![] bcast_S_S4096x200x26 : (⟨S_, .i32⟩ : BufTy).Contents (Elt F) → (⟨S4096x200x26, .i32⟩ : BufTy).Contents (Elt F)),
    ternary main_v5 main_v15 main_v16 main_v17 (select : (⟨S4096x200x26, .i1⟩ : BufTy).Contents (Elt F) → (⟨S4096x200x26, .i32⟩ : BufTy).Contents (Elt F) → (⟨S4096x200x26, .i32⟩ : BufTy).Contents (Elt F) → (⟨S4096x200x26, .i32⟩ : BufTy).Contents (Elt F)) ]

/-- The reference's program is that straight line. -/
theorem main_eq (c : Dev nD) : main (F := F) c = seq ops := rfl

/-- The fold of the operations at the result buffer is the composed value of the two arguments. -/
theorem result_eq (V : Valuation τ sig (Elt F)) :
    after ops V (main_v17 : DevRef τ sig) = verdict (V (main_arg0 : DevRef τ sig)) (V (main_arg1 : DevRef τ sig)) := by
  after_results
  rfl

/-- No operation writes the first argument. -/
theorem arg0_eq (V : Valuation τ sig (Elt F)) :
    after ops V (main_arg0 : DevRef τ sig) = V (main_arg0 : DevRef τ sig) := by
  after_results

/-- No operation writes the second argument. -/
theorem arg1_eq (V : Valuation τ sig (Elt F)) :
    after ops V (main_arg1 : DevRef τ sig) = V (main_arg1 : DevRef τ sig) := by
  after_results

/-- No buffer of the reference is scoped. -/
theorem no_scoped_buffer : (Finset.univ.filter fun b : Ref sig .tc => b.isScoped) = ∅ := by decide

/-- No semaphore of the reference is scoped. -/
theorem no_scoped_sem : (Finset.univ.filter fun sm : SemLoc sig => sm.isScoped .tc) = ∅ := by decide

/-- Every operation touches buffers of the TensorCore only. -/
theorem ops_sub : (ops : List (HloOp τ sig (Elt F))).Forall fun op => op.bufs ⊆ tcRefs τ sig :=
  ⟨reshape_bufs_sub .., unary_bufs_sub .., unary_bufs_sub .., unary_bufs_sub .., binary_bufs_sub .., nullary_bufs_sub ..,
    binary_bufs_sub .., nullary_bufs_sub .., nullary_bufs_sub .., unary_bufs_sub .., binary_bufs_sub .., nullary_bufs_sub ..,
    unary_bufs_sub .., binary_bufs_sub .., reshape_bufs_sub .., unary_bufs_sub .., unary_bufs_sub .., binary_bufs_sub ..,
    nullary_bufs_sub .., nullary_bufs_sub .., nullary_bufs_sub .., quaternary_bufs_sub .., quaternary_bufs_sub ..,
    nullary_bufs_sub .., unary_bufs_sub .., ternary_bufs_sub ..⟩

/-- Every execution of the reference ends with its result at `verdict` of the arguments' launch contents, the arguments as
    they were, and every counter at zero. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v17)
          = verdict (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono (fun r h => ⟨fun c => ⟨(h c main_v17).trans (result_eq _), (h c main_arg0).trans (arg0_eq _),
      (h c main_arg1).trans (arg1_eq _)⟩, sem_eq_zero_of_no_sems (by decide) r.2⟩)
    (run_seq no_scoped_buffer no_scoped_sem defs main (fun _ => ops) main_eq (fun _ => ops_sub) m ρ)

end Cert.Proof.Bucket.Ref

end
-- ==== Proof.Frames.lean ====
/-
  The frames: the program, its ideal reading and the reference each run to an end from every memory, with their arguments
  as they were and every semaphore at zero. All three are the two runs (`Launch.lean`, `RefRun.lean`) read at the arguments;
  the program and its ideal reading are one text, so one run serves both.
-/
module

public import proofs.«01_k».proof.Defs
public import proofs.«01_k».proof.Proof.Gen.Kernel
public import proofs.«01_k».proof.Proof.Launch
public import proofs.«01_k».proof.Proof.RefRun

@[expose] public section

noncomputable section

namespace Cert.Proof.Bucket

open Idealize.ShloMosaic Idealize.SL.Sem

/-- The frame of the program over words. -/
theorem frame_kernel : Cert.quiescent_Kernel := fun m ρ _ =>
  (θ_run (Cert.KernelIdeal.defs (F := Bits)) (Cert.KernelIdeal.threads (F := Bits)) ⟨m, fun _ => 0, ρ⟩).mono
    (fun _ h => ⟨fun c => ⟨(h.1 c).1, (h.1 c).2.1⟩, h.2⟩) (run_main (F := Bits) m ρ)

/-- The frame of the program over extended reals. -/
theorem frame_ideal : Cert.quiescent_KernelIdeal := fun m ρ _ =>
  (θ_run (Cert.KernelIdeal.defs (F := Ideal)) (Cert.KernelIdeal.threads (F := Ideal)) ⟨m, fun _ => 0, ρ⟩).mono
    (fun _ h => ⟨fun c => ⟨(h.1 c).1, (h.1 c).2.1⟩, h.2⟩) (run_main (F := Ideal) m ρ)

/-- The frame of the reference over extended reals. -/
theorem frame_reference : Cert.quiescent_ReferenceIdeal := fun m ρ _ =>
  (θ_run (Cert.ReferenceIdeal.defs (F := Ideal)) (onTc (τ := Cert.ReferenceIdeal.τ) (Cert.ReferenceIdeal.main (F := Ideal)))
    ⟨m, fun _ => 0, ρ⟩).mono (fun _ h => ⟨fun c => (h.1 c).2, h.2⟩) (Ref.run_main (F := Ideal) m ρ)

end Cert.Proof.Bucket

end
-- ==== Proof.Marks.lean ====
/-
  What the two results rest on, element by element: folds that keep the better of two, the constants, a feature's bucket
  number, the precondition, and the reference's comparisons and scores. With `q = ⌊16 x⌋` and thresholds k/16, `x < k/16`
  exactly when `q + 1 ≤ k`, so the scores are `17 - k` from `q + 1` on and zero before.
-/
module

public import proofs.«01_k».proof.Defs
public import proofs.«01_k».proof.Proof.Launch
public import proofs.«01_k».proof.Proof.RefRun
public import proofs.«01_k».proof.Proof.Gen.Pre_uniform_buckets
public import Idealize.ShloMosaic.PureOps.Reduce
public import Idealize.ShloMosaic.PureOps.Ideal.Laws
public import Idealize.ShloMosaic.Lib.Pipeline.Value
public import Idealize.ShloMosaic.Lib.ValueIdxCore
public import Idealize.ShloMosaic.Lib.IdealHost
public import Idealize.ShloMosaic.Lib.Pointwise.Select

@[expose] public section

noncomputable section

namespace Cert.Proof.Bucket

open Idealize.ShloMosaic Idealize.SL.Sem
open Cert.ReferenceIdeal (S4096x200x26 S442 S1x1x26x17 S4096x200x26x1 S4096x200x26x17 S17 S1x1x1x17 S_)
open Cert.Pre_uniform_buckets (S26x17 S1x17)

/-! ## Folds that keep the better of two -/

section Winner
variable {α : Type} (f : α → α → α) (P : α)

/-- Once the winner is held, a fold keeps it. -/
theorem foldl_keeps (l : List α) (hl : ∀ b ∈ l, f P b = P) : l.foldl f P = P := by
  induction l with
  | nil => rfl
  | cons b l ih =>
    rw [List.foldl_cons, hl b List.mem_cons_self]
    exact ih fun c hc => hl c (List.mem_cons_of_mem _ hc)

/-- A fold that keeps one of each two, over a list that holds a winner of every meeting, ends at that winner. -/
theorem foldl_winner (hsel : ∀ a b, f a b = a ∨ f a b = b) (l : List α) (init : α) (hP : P ∈ l)
    (hl : ∀ b ∈ l, f P b = P) (hr : ∀ b ∈ l, f b P = P) (hi : f init P = P) : l.foldl f init = P := by
  induction l generalizing init with
  | nil => cases hP
  | cons b l ih =>
    have hl' : ∀ c ∈ l, f P c = P := fun c hc => hl c (List.mem_cons_of_mem _ hc)
    rw [List.foldl_cons]
    by_cases hb : b = P
    · rw [hb, hi]; exact foldl_keeps f P l hl'
    · refine ih (f init b) ?_ hl' (fun c hc => hr c (List.mem_cons_of_mem _ hc)) ?_
      · rcases List.mem_cons.mp hP with h | h
        · exact absurd h.symm hb
        · exact h
      · rcases hsel init b with h | h <;> rw [h]
        · exact hi
        · exact hr b List.mem_cons_self
end Winner

section Reductions
variable {s t u : Shape} {axes : List (Fin s.rank)}

/-- A reduction whose body keeps one of each two is the entry that wins every meeting. -/
theorem reduce_winner {α : Type} (f : α → α → α) (x : s.Idx → α) (init : u.Idx → α) (h : s.ReducesTo axes t) (hu : 0 < u.numel)
    (j : t.Idx) (P : α) (hsel : ∀ a b, f a b = a ∨ f a b = b) (hP : ∃ i, h.drop i = j ∧ x i = P)
    (hl : ∀ i, h.drop i = j → f P (x i) = P) (hr : ∀ i, h.drop i = j → f (x i) P = P) (hi : f (init (Shape.Idx.first hu)) P = P) :
    Host.reduce f x init h hu j = P := by
  rw [Host.reduce_eq_foldl, ← List.foldl_map (f := x) (g := f)]
  have mem : ∀ b, b ∈ (((List.finRange s.numel).map s.rowMajor.symm).filter fun i => h.drop i = j).map x → ∃ i, h.drop i = j ∧ x i = b := by
    intro b hb
    obtain ⟨i, hi, rfl⟩ := List.mem_map.mp hb
    exact ⟨i, of_decide_eq_true (List.mem_filter.mp hi).2, rfl⟩
  refine foldl_winner f P hsel _ _ ?_ (fun b hb => ?_) (fun b hb => ?_) hi
  · obtain ⟨i, hd, rfl⟩ := hP
    exact List.mem_map.mpr ⟨i, List.mem_filter.mpr
      ⟨List.mem_map.mpr ⟨s.rowMajor i, List.mem_finRange _, Equiv.symm_apply_apply _ _⟩, decide_eq_true hd⟩, rfl⟩
  · obtain ⟨i, hi, rfl⟩ := mem b hb; exact hl i hi
  · obtain ⟨i, hi, rfl⟩ := mem b hb; exact hr i hi

/-- The same of a reduction of pairs by a position's body, over the extended reals. -/
theorem argReduce_winner {β : Type} (f : Ideal .f32 × β → Ideal .f32 × β → Ideal .f32 × β) (x : FVec Ideal s .f32) (y : s.Idx → β)
    (ix : u.Idx → Ideal .f32) (iy : u.Idx → β) (h : s.ReducesTo axes t) (hu : 0 < u.numel) (j : t.Idx) (P : Ideal .f32 × β)
    (hsel : ∀ a b, f a b = a ∨ f a b = b) (hP : ∃ i, h.drop i = j ∧ (x i, y i) = P)
    (hl : ∀ i, h.drop i = j → f P (x i, y i) = P) (hr : ∀ i, h.drop i = j → f (x i, y i) P = P)
    (hi : f (ix (Shape.Idx.first hu), iy (Shape.Idx.first hu)) P = P) :
    Host.argReduce f x y ix iy h hu j = P := by
  rw [Ideal.argReduce_eq_reduce2, Host.reduce2_eq_foldl_fiber]
  have mem : ∀ b, b ∈ Host.argReduceFiber x y h j → ∃ i, h.drop i = j ∧ (x i, y i) = b := by
    intro b hb
    obtain ⟨n, hn, rfl⟩ := List.mem_map.mp hb
    exact ⟨s.rowMajor.symm n, of_decide_eq_true (List.mem_filter.mp hn).2, rfl⟩
  refine foldl_winner f P hsel _ _ ?_ (fun b hb => ?_) (fun b hb => ?_) hi
  · obtain ⟨i, hd, rfl⟩ := hP
    exact List.mem_map.mpr ⟨s.rowMajor i, List.mem_filter.mpr
      ⟨List.mem_finRange _, decide_eq_true (by rw [Equiv.symm_apply_apply]; exact hd)⟩, by rw [Equiv.symm_apply_apply]⟩
  · obtain ⟨i, hi, rfl⟩ := mem b hb; exact hl i hi
  · obtain ⟨i, hi, rfl⟩ := mem b hb; exact hr i hi
end Reductions

/-! ## Indices -/

/-- Entry `k` of the seventeen over `j`. -/
def over (j : S4096x200x26.Idx) (k : Fin 17) : S4096x200x26x17.Idx
  | ⟨0, _⟩ => j 0 | ⟨1, _⟩ => j 1 | ⟨2, _⟩ => j 2 | ⟨3, _⟩ => k
/-- The one entry over `j` before the features are repeated. -/
def alone (j : S4096x200x26.Idx) : S4096x200x26x1.Idx
  | ⟨0, _⟩ => j 0 | ⟨1, _⟩ => j 1 | ⟨2, _⟩ => j 2 | ⟨3, _⟩ => (0 : Fin 1)
/-- Threshold `k` of slot `n` among the reshaped thresholds. -/
def inSlot (n : Fin 26) (k : Fin 17) : S1x1x26x17.Idx
  | ⟨0, _⟩ => (0 : Fin 1) | ⟨1, _⟩ => (0 : Fin 1) | ⟨2, _⟩ => n | ⟨3, _⟩ => k
/-- Weight `k` among the reshaped weights. -/
def inRow (k : Fin 17) : S1x1x1x17.Idx
  | ⟨0, _⟩ => (0 : Fin 1) | ⟨1, _⟩ => (0 : Fin 1) | ⟨2, _⟩ => (0 : Fin 1) | ⟨3, _⟩ => k
/-- Weight `k`. -/
def atK (k : Fin 17) : S17.Idx
  | ⟨0, _⟩ => k
/-- Threshold `i` of the flat thresholds. -/
def flat (i : Fin 442) : S442.Idx
  | ⟨0, _⟩ => i
/-- Threshold `k` of slot `n` in the precondition's table. -/
def inTable (n : Fin 26) (k : Fin 17) : S26x17.Idx
  | ⟨0, _⟩ => n | ⟨1, _⟩ => k

/-! ## The constants -/

theorem bits_sixteen : Ideal.ofBits .f32 0x41800000#32 = ((16 : ℝ) : EReal) := by
  simp [Ideal.ofBits, Ideal.ieee, -EReal.coe_mul]; norm_num

theorem bits_seventeen : Ideal.ofBits .f32 0x41880000#32 = ((17 : ℝ) : EReal) := by
  simp [Ideal.ofBits, Ideal.ieee, -EReal.coe_mul]; norm_num

theorem bits_minus_one : Ideal.ofBits .f32 0xBF800000#32 = ((-1 : ℝ) : EReal) := by
  simp [Ideal.ofBits, Ideal.ieee, -EReal.coe_mul, -EReal.coe_neg]; norm_num

theorem bits_bot : Ideal.ofBits .f32 0xFF800000#32 = ⊥ := by
  simp [Ideal.ofBits, Ideal.ieee]

/-- A count below seventeen, written as a word and read back. -/
theorem toInt_small (k : ℕ) (hk : k < 17) : (BitVec.ofNat 32 k).toInt = (k : ℤ) := by
  interval_cases k <;> decide

/-! ## The bucket number of a feature -/

/-- The bucket number of a feature in [0, 1): one more than the whole part of sixteen times it. -/
theorem bkt_eq (r : ℝ) (h0 : 0 ≤ r) (h1 : r < 1) :
    bkt (F := Ideal) ((r : ℝ) : EReal) = BitVec.ofNat 32 (⌊16 * r⌋₊ + 1) := by
  have hm : (FloatOps.mulf (F := Ideal) (φ := .f32) ((r : ℝ) : EReal) (Scalar.ofBits .f32 0x41800000#32))
      = ((16 * r : ℝ) : EReal) := by
    show ((r : ℝ) : EReal) * Ideal.ofBits .f32 0x41800000#32 = _
    rw [bits_sixteen, ← EReal.coe_mul, mul_comm]
  have hq : ⌊16 * r⌋ = ((⌊16 * r⌋₊ : ℕ) : ℤ) := (Int.natCast_floor_eq_floor (by positivity)).symm
  have hlt : ⌊16 * r⌋₊ < 16 := (Nat.floor_lt (by positivity)).mpr (by push_cast; linarith)
  unfold bkt
  rw [hm]
  show IntOp.addi (Ideal.fptosi 32 ((16 * r : ℝ) : EReal)) 1#32 = _
  rw [Ideal.fptosi, Ideal.toIntClamped_coe, if_pos (by positivity), hq]
  generalize ⌊16 * r⌋₊ = q at hlt
  interval_cases q <;> decide

/-- A feature is below `k/16` exactly when the whole part of sixteen times it is below `k`. -/
theorem below_iff (r : ℝ) (h0 : 0 ≤ r) (k : ℕ) : r < k * (1 / 16) ↔ ⌊16 * r⌋₊ < k := by
  rw [Nat.floor_lt (by positivity)]
  constructor <;> intro h <;> linarith

/-! ## The precondition, element by element -/

section Pre
variable {x : FVec Ideal S4096x200x26 .f32} {t : FVec Ideal S442 .f32}

/-- What the precondition says: each feature is a real in [0, 1), and threshold `k` of each slot is `k/16`. -/
structure Uniform (x : FVec Ideal S4096x200x26 .f32) (t : FVec Ideal S442 .f32) : Prop where
  feature : ∀ j, ∃ r : ℝ, x j = ((r : ℝ) : EReal) ∧ 0 ≤ r ∧ r < 1
  threshold : ∀ (i : S442.Idx) (s k : ℕ), k < 17 → s < 26 → (i 0).val = 17 * s + k → t i = (((k : ℝ) * (1 / 16) : ℝ) : EReal)

/-- The printed precondition, all ones, says that. -/
theorem uniform_of_pre
    (h : (Cert.Pre_uniform_buckets.fn (F := Ideal) x t).1 = (fun _ => 1#1)
      ∧ (Cert.Pre_uniform_buckets.fn (F := Ideal) x t).2.1 = (fun _ => 1#1)
      ∧ (Cert.Pre_uniform_buckets.fn (F := Ideal) x t).2.2 = (fun _ => 1#1)) : Uniform x t := by
  obtain ⟨h0, h1, h2⟩ := h
  refine ⟨fun j => ?_, fun i s k hk hs hi => ?_⟩
  · have a : Ideal.cmp .oge (x j) (Ideal.ofBits .f32 0x00000000#32) = 1 := congrFun h0 j
    have b : Ideal.cmp .olt (x j) (Ideal.ofBits .f32 0x3F800000#32) = 1 := congrFun h1 j
    rw [Ideal.cmp_oge_eq_one, Ideal.ofBits_zero_f32] at a
    rw [Ideal.cmp_olt_eq_one, Ideal.ofBits_one_f32] at b
    generalize x j = v at a b
    induction v using EReal.rec with
    | bot => simp at a
    | top => simp at b
    | coe r => exact ⟨r, rfl, by exact_mod_cast a, by exact_mod_cast b⟩
  · have c : Ideal.cmp .oeq (shapeCast S26x17 t Cert.Pre_uniform_buckets.Facts.shapeCasts_S442_S26x17 (inTable ⟨s, hs⟩ ⟨k, hk⟩))
        (Ideal.div (((BitVec.ofNat 32 k).toInt : ℝ) : EReal) (Ideal.ofBits .f32 0x41800000#32)) = 1 :=
      congrFun h2 (inTable ⟨s, hs⟩ ⟨k, hk⟩)
    rw [Ideal.cmp_oeq_eq_one, shapeCast_apply t _ _ i (by
      rw [Shape.rowMajor_val_one, Shape.rowMajor_val_two]; show (i 0).val = s * 17 + k; omega), toInt_small k hk, bits_sixteen,
      Ideal.div_coe (by norm_num), ← EReal.coe_mul] at c
    rw [c]; push_cast; rfl
end Pre

/-! ## The reference, element by element -/

section Ref
variable {x : FVec Ideal S4096x200x26 .f32} {t : FVec Ideal S442 .f32}

open Cert.ReferenceIdeal Cert.ReferenceIdeal.Gen in
/-- The comparison of the feature at `j` with threshold `k` of its slot: one exactly from the feature's bucket number on. -/
theorem hits_apply (H : Uniform x t) (j : S4096x200x26.Idx) (r : ℝ) (hr : x j = ((r : ℝ) : EReal)) (h0 : 0 ≤ r) (k : Fin 17) :
    Ref.hits x t (over j k) = if ⌊16 * r⌋₊ < k.val then 1#1 else 0#1 := by
  have e1 : broadcastInDim S4096x200x26x17 ![0, 1, 2, 3] bcast_S4096x200x26x1_S4096x200x26x17_0_1_2_3
      (broadcastInDim S4096x200x26x1 ![0, 1, 2] bcast_S4096x200x26_S4096x200x26x1_0_1_2 x) (over j k) = x j := by
    rw [broadcastInDim_apply ![0, 1, 2, 3] bcast_S4096x200x26x1_S4096x200x26x17_0_1_2_3 _ (over j k) (alone j) (fun a => by fin_cases a <;> rfl),
      broadcastInDim_apply ![0, 1, 2] bcast_S4096x200x26_S4096x200x26x1_0_1_2 x (alone j) j (fun a => by fin_cases a <;> rfl)]
  have e2 : broadcastInDim S4096x200x26x17 ![0, 1, 2, 3] bcast_S1x1x26x17_S4096x200x26x17_0_1_2_3
      (shapeCast S1x1x26x17 t shapeCasts_S442_S1x1x26x17) (over j k) = (((k.val : ℝ) * (1 / 16) : ℝ) : EReal) := by
    have hj : (j 2).val < 26 := (j 2).isLt
    have hk := k.isLt
    rw [broadcastInDim_apply ![0, 1, 2, 3] bcast_S1x1x26x17_S4096x200x26x17_0_1_2_3 _ (over j k) (inSlot (j 2) k) (fun a => by fin_cases a <;> rfl),
      shapeCast_apply t shapeCasts_S442_S1x1x26x17 (inSlot (j 2) k) (flat ⟨17 * (j 2).val + k.val, by omega⟩) (by
        rw [Shape.rowMajor_val_one, Shape.rowMajor_val_four]
        show 17 * (j 2).val + k.val = ((0 * 1 + 0) * 26 + (j 2).val) * 17 + k.val
        omega)]
    exact H.threshold _ (j 2).val k.val hk hj rfl
  show Ideal.cmp .olt _ _ = _
  rw [e1, e2, hr, Ideal.cmp_olt]
  by_cases hq : ⌊16 * r⌋₊ < k.val
  · rw [if_pos hq, decide_eq_true (EReal.coe_lt_coe_iff.mpr ((below_iff r h0 k.val).mpr hq))]; rfl
  · rw [if_neg hq, decide_eq_false fun h => hq ((below_iff r h0 k.val).mp (EReal.coe_lt_coe_iff.mp h))]; rfl

open Cert.ReferenceIdeal Cert.ReferenceIdeal.Gen in
/-- The score of threshold `k` at `j`: its weight `17 - k` from the feature's bucket number on, zero before. -/
theorem score_apply (H : Uniform x t) (j : S4096x200x26.Idx) (r : ℝ) (hr : x j = ((r : ℝ) : EReal)) (h0 : 0 ≤ r) (k : Fin 17) :
    Ref.score x t (over j k) = (((if ⌊16 * r⌋₊ < k.val then 17 - (k.val : ℝ) else 0) : ℝ) : EReal) := by
  have e : broadcastInDim S4096x200x26x17 ![0, 1, 2, 3] bcast_S1x1x1x17_S4096x200x26x17_0_1_2_3
      (shapeCast S1x1x1x17 (Ref.weight (F := Ideal)) shapeCasts_S17_S1x1x1x17) (over j k) = ((17 - (k.val : ℝ) : ℝ) : EReal) := by
    rw [broadcastInDim_apply ![0, 1, 2, 3] bcast_S1x1x1x17_S4096x200x26x17_0_1_2_3 _ (over j k) (inRow k) (fun a => by fin_cases a <;> rfl),
      shapeCast_apply (Ref.weight (F := Ideal)) shapeCasts_S17_S1x1x1x17 (inRow k) (atK k) (by
        rw [Shape.rowMajor_val_one, Shape.rowMajor_val_four]
        show k.val = ((0 * 1 + 0) * 1 + 0) * 17 + k.val
        omega)]
    show Ideal.ofBits .f32 0x41880000#32 + Ideal.ofBits .f32 0xBF800000#32 * (((BitVec.ofNat 32 k.val).toInt : ℝ) : EReal) = _
    rw [bits_seventeen, bits_minus_one, toInt_small _ k.isLt, ← EReal.coe_mul, ← EReal.coe_add]
    congr 1; push_cast; ring
  show (((Ref.hits x t (over j k)).toNat : ℝ) : EReal) * _ = _
  rw [e, hits_apply H j r hr h0 k, ← EReal.coe_mul]
  congr 1
  split <;> simp

open Cert.ReferenceIdeal Cert.ReferenceIdeal.Gen in
/-- An entry reduced into `j` is one of the seventeen over `j`. -/
theorem eq_of_drop (i : S4096x200x26x17.Idx) (j : S4096x200x26.Idx)
    (h : reducesTo_S4096x200x26x17_S4096x200x26_d3.drop i = j) : i = over j (i 3) := by
  subst h
  funext a
  match a with | ⟨0, _⟩ => rfl | ⟨1, _⟩ => rfl | ⟨2, _⟩ => rfl | ⟨3, _⟩ => rfl

open Cert.ReferenceIdeal Cert.ReferenceIdeal.Gen in
/-- Each of the seventeen entries over `j` is reduced into `j`. -/
theorem drop_eq (j : S4096x200x26.Idx) (k : Fin 17) :
    reducesTo_S4096x200x26x17_S4096x200x26_d3.drop (over j k) = j := by
  funext a
  fin_cases a <;> rfl
end Ref

end Cert.Proof.Bucket

end
-- ==== Proof.Value.lean ====
/-
  The two results are one: where every feature lies in [0, 1) and every slot's thresholds are 0/16, …, 16/16, the
  reference's verdict on a feature `x` is `⌊16 x⌋ + 1`, the bucket number that the program computes. The last threshold is
  always hit, and `⌊16 x⌋ + 1` is the one position of the greatest score.
-/
module

public import proofs.«01_k».proof.Proof.Marks

@[expose] public section

noncomputable section

namespace Cert.Proof.Bucket

open Idealize.ShloMosaic Idealize.SL.Sem
open Cert.ReferenceIdeal (S4096x200x26 S442 S1x1x26x17 S4096x200x26x1 S4096x200x26x17 S17 S1x1x1x17 S_)

/-! ## The reference's verdict -/

section Ref
variable {x : FVec Ideal S4096x200x26 .f32} {t : FVec Ideal S442 .f32}

open Cert.ReferenceIdeal Cert.ReferenceIdeal.Gen in
/-- Something is hit: the last threshold is one. -/
theorem anyHit_apply (H : Uniform x t) (j : S4096x200x26.Idx) : Ref.anyHit x t j = 1#1 := by
  obtain ⟨r, hr, h0, h1⟩ := H.feature j
  have hlt : ⌊16 * r⌋₊ < 16 := (Nat.floor_lt (by positivity)).mpr (by push_cast; linarith)
  refine reduce_winner IntOp.ori (Ref.hits x t) _ _ _ j 1#1 (by decide) ⟨over j 16, drop_eq j 16, ?_⟩ (fun i _ => ?_) (fun i _ => ?_) rfl
  · rw [hits_apply H j r hr h0]
    exact if_pos hlt
  · generalize Ref.hits x t i = b
    revert b; decide
  · generalize Ref.hits x t i = b
    revert b; decide

/-- The reference's choice between two scored positions, by the order of the scores and then of the positions. -/
theorem reducer_eq (a b : Ideal .f32 × BitVec 32) :
    Cert.ReferenceIdeal.reducer_argmax_f32_i32 a b
      = if (b.1 : EReal) < a.1 then a else if (a.1 : EReal) = b.1 ∧ a.2.slt b.2 = true then a else b := by
  obtain ⟨u, i⟩ := a
  obtain ⟨v, k⟩ := b
  unfold Cert.ReferenceIdeal.reducer_argmax_f32_i32
  simp only [Ideal.cmpf_def, Ideal.cmp_ogt, Ideal.cmp_une, Ideal.cmp_oeq]
  by_cases h : (v : EReal) < u
  · have one_or : ∀ b : BitVec 1, 1#1 ||| b = 1#1 := by decide
    simp [h, Scalar.select, IntOp.ori, IntOp.andi, one_or]
  · by_cases e : (u : EReal) = v
    · subst e
      by_cases hs : i.slt k = true <;> simp [hs, Scalar.select, IntOp.ori, IntOp.andi, IntOp.cmpi]
    · simp [h, e, Scalar.select, IntOp.ori, IntOp.andi]

/-- The choice keeps one of the two whole. -/
theorem reducer_sel (a b : Ideal .f32 × BitVec 32) :
    Cert.ReferenceIdeal.reducer_argmax_f32_i32 a b = a ∨ Cert.ReferenceIdeal.reducer_argmax_f32_i32 a b = b := by
  rw [reducer_eq]
  split
  · exact Or.inl rfl
  · split
    · exact Or.inl rfl
    · exact Or.inr rfl

/-- It keeps the first where that scores more. -/
theorem reducer_first (a b : Ideal .f32 × BitVec 32) (h : (b.1 : EReal) < a.1) :
    Cert.ReferenceIdeal.reducer_argmax_f32_i32 a b = a := by
  rw [reducer_eq, if_pos h]

/-- It keeps the second where that scores more. -/
theorem reducer_second (a b : Ideal .f32 × BitVec 32) (h : (a.1 : EReal) < b.1) :
    Cert.ReferenceIdeal.reducer_argmax_f32_i32 a b = b := by
  rw [reducer_eq, if_neg (lt_asymm h), if_neg fun e => h.ne e.1]

open Cert.ReferenceIdeal Cert.ReferenceIdeal.Gen in
/-- The chosen pair over `j` is the one that scores more than every other. -/
theorem chosen_eq (j : S4096x200x26.Idx) (P : Ideal .f32 × BitVec 32)
    (hmem : ∃ i, reducesTo_S4096x200x26x17_S4096x200x26_d3.drop i = j ∧ (Ref.score x t i, iotaInDim S4096x200x26x17 32 3 i) = P)
    (key : ∀ i, reducesTo_S4096x200x26x17_S4096x200x26_d3.drop i = j →
      (Ref.score x t i, iotaInDim S4096x200x26x17 32 3 i) = P ∨ (Ref.score x t i : EReal) < P.1)
    (hbot : (constant (F := Ideal) S_ .f32 0xFF800000#32 (Shape.Idx.first h_S_) : EReal) < P.1) :
    Host.argReduce reducer_argmax_f32_i32 (Ref.score x t) (iotaInDim S4096x200x26x17 32 3)
      (constant (F := Ideal) S_ .f32 0xFF800000#32) (constantI S_ 32 0#32) reducesTo_S4096x200x26x17_S4096x200x26_d3 h_S_ j = P := by
  have self : reducer_argmax_f32_i32 P P = P := (reducer_sel P P).elim id id
  refine argReduce_winner reducer_argmax_f32_i32 (Ref.score x t) (iotaInDim S4096x200x26x17 32 3)
    (constant (F := Ideal) S_ .f32 0xFF800000#32) (constantI S_ 32 0#32) reducesTo_S4096x200x26x17_S4096x200x26_d3 h_S_ j P reducer_sel hmem
    (fun i hi => ?_) (fun i hi => ?_) (reducer_second (_, _) P hbot)
  · rcases key i hi with h | h
    · rw [h]; exact self
    · exact reducer_first P (_, _) h
  · rcases key i hi with h | h
    · rw [h]; exact self
    · exact reducer_second (_, _) P h

open Cert.ReferenceIdeal Cert.ReferenceIdeal.Gen in
/-- The position of the greatest score is the position of the chosen pair. -/
theorem best_of_chosen (j : S4096x200x26.Idx) (P : Ideal .f32 × BitVec 32)
    (h : Host.argReduce reducer_argmax_f32_i32 (Ref.score x t) (iotaInDim S4096x200x26x17 32 3)
      (constant (F := Ideal) S_ .f32 0xFF800000#32) (constantI S_ 32 0#32) reducesTo_S4096x200x26x17_S4096x200x26_d3 h_S_ j = P) :
    Ref.best x t j = P.2 := by
  have e : Ref.best x t = fun j => (Host.argReduce reducer_argmax_f32_i32 (Ref.score x t) (iotaInDim S4096x200x26x17 32 3)
      (constant (F := Ideal) S_ .f32 0xFF800000#32) (constantI S_ 32 0#32) reducesTo_S4096x200x26x17_S4096x200x26_d3 h_S_ j).2 := rfl
  exact (congrFun e j).trans (congrArg Prod.snd h)

open Cert.ReferenceIdeal Cert.ReferenceIdeal.Gen in
/-- Over `j`, threshold `⌊16 r⌋ + 1` scores `16 - ⌊16 r⌋`, and every other less. -/
theorem others_less (H : Uniform x t) (j : S4096x200x26.Idx) (r : ℝ) (hr : x j = ((r : ℝ) : EReal)) (h0 : 0 ≤ r) (hlt : ⌊16 * r⌋₊ < 16)
    (k : Fin 17) :
    Ref.score x t (over j k) = (((16 - (⌊16 * r⌋₊ : ℝ)) : ℝ) : EReal) ∧ k.val = ⌊16 * r⌋₊ + 1
      ∨ (Ref.score x t (over j k) : EReal) < (((16 - (⌊16 * r⌋₊ : ℝ)) : ℝ) : EReal) := by
  have hpos : (⌊16 * r⌋₊ : ℝ) < 16 := by exact_mod_cast hlt
  rw [score_apply H j r hr h0 k]
  by_cases e : k.val = ⌊16 * r⌋₊ + 1
  · left
    refine ⟨?_, e⟩
    rw [if_pos (by omega), e]
    congr 1; push_cast; ring
  · right
    rw [EReal.coe_lt_coe_iff]
    split
    · have : ((⌊16 * r⌋₊ + 1 : ℕ) : ℝ) < (k.val : ℝ) := by exact_mod_cast (by omega : ⌊16 * r⌋₊ + 1 < k.val)
      push_cast at this; linarith
    · linarith

open Cert.ReferenceIdeal Cert.ReferenceIdeal.Gen in
/-- The position beside an entry is its last coordinate. -/
theorem position_apply (j : S4096x200x26.Idx) (k : Fin 17) : iotaInDim S4096x200x26x17 32 3 (over j k) = BitVec.ofNat 32 k.val := rfl

open Cert.ReferenceIdeal Cert.ReferenceIdeal.Gen in
/-- The position of the greatest score is the feature's bucket number. -/
theorem best_apply (H : Uniform x t) (j : S4096x200x26.Idx) (r : ℝ) (hr : x j = ((r : ℝ) : EReal)) (h0 : 0 ≤ r) (h1 : r < 1) :
    Ref.best x t j = BitVec.ofNat 32 (⌊16 * r⌋₊ + 1) := by
  have hlt : ⌊16 * r⌋₊ < 16 := (Nat.floor_lt (by positivity)).mpr (by push_cast; linarith)
  have hq : ⌊16 * r⌋₊ + 1 < 17 := by omega
  have win := chosen_eq (x := x) (t := t) j ((((16 - (⌊16 * r⌋₊ : ℝ)) : ℝ) : EReal), BitVec.ofNat 32 (⌊16 * r⌋₊ + 1)) ?_ ?_ ?_
  · exact best_of_chosen j _ win
  · refine ⟨over j ⟨⌊16 * r⌋₊ + 1, hq⟩, drop_eq j _, ?_⟩
    rcases others_less H j r hr h0 hlt ⟨⌊16 * r⌋₊ + 1, hq⟩ with h | h
    · rw [h.1, position_apply]
    · rw [score_apply H j r hr h0, if_pos (Nat.lt_succ_self _), EReal.coe_lt_coe_iff] at h
      push_cast at h; linarith
  · intro i hd
    obtain ⟨k, rfl⟩ : ∃ k : Fin 17, i = over j k := ⟨_, eq_of_drop i j hd⟩
    rcases others_less H j r hr h0 hlt k with h | h
    · left; rw [h.1, position_apply, h.2]
    · exact Or.inr h
  · show Ideal.ofBits .f32 0xFF800000#32 < _
    rw [bits_bot]; exact EReal.bot_lt_coe _

/-- Under the precondition the reference's verdict is the bucket number. -/
theorem verdict_eq (H : Uniform x t) : Ref.verdict x t = fun j => bkt (F := Ideal) (x j) := by
  funext j
  obtain ⟨r, hr, h0, h1⟩ := H.feature j
  unfold Ref.verdict select
  rw [anyHit_apply H j, best_apply H j r hr h0 h1, hr, bkt_eq r h0 h1, Scalar.select, if_pos (by decide)]
end Ref

/-! ## The two results -/

/-- The program's result is the bucket number of each feature: the two turns undo each other. -/
theorem outcome_eq (m : (ℓ : Loc Cert.KernelIdeal.nD Cert.KernelIdeal.τ Cert.KernelIdeal.sig) → Buf (Elt Ideal) ℓ) (c : Dev Cert.KernelIdeal.nD) :
    outcome m c = fun j => bkt (F := Ideal) (m (featLoc c) j) := by
  refine funext fun (j : S4096x200x26.Idx) => ?_
  have e : turned m c (ValueIdx.ix3 (j 2) (j 1) (j 0)) = m (featLoc c) j :=
    transpose_apply _ _ _ _ j (fun b => by fin_cases b <;> rfl)
  refine (transpose_apply _ _ _ _ (ValueIdx.ix3 (j 2) (j 1) (j 0)) (fun b => by fin_cases b <;> rfl)).trans ?_
  exact congrArg (bkt (F := Ideal)) e

/-- Both run, and end with the same bucket numbers. -/
theorem same_buckets : Cert.algebraic_KernelIdeal_ReferenceIdeal_pre_uniform_buckets := by
  intro m g m' g' hpre hargs
  refine ⟨fun c => outcome m c, ?_, ?_⟩
  · exact (θ_run (Cert.KernelIdeal.defs (F := Ideal)) (Cert.KernelIdeal.threads (F := Ideal)) ⟨m, fun _ => 0, g⟩).mono
      (fun _ h c => ⟨(h.1 c).2.2, (h.1 c).1, (h.1 c).2.1⟩) (run_main (F := Ideal) m g)
  · refine (θ_run (Cert.ReferenceIdeal.defs (F := Ideal)) (onTc (τ := Cert.ReferenceIdeal.τ) (Cert.ReferenceIdeal.main (F := Ideal)))
      ⟨m', fun _ => 0, g'⟩).mono (fun _ h c => ⟨(h.1 c).1.trans ?_, (h.1 c).2⟩) (Ref.run_main (F := Ideal) m' g')
    rw [(hargs c).1, (hargs c).2]
    exact (verdict_eq (uniform_of_pre (hpre c))).trans (outcome_eq m c).symm

end Cert.Proof.Bucket

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_uniform_buckets
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- Everything the certificate claims: each program runs to its end, the ideal kernel is the kernel, and it computes what the reference computes. -/
theorem claim : Cert.Claim := ⟨Cert.Kernel.Gen.facts, Cert.KernelIdeal.Gen.facts, Cert.ReferenceIdeal.Gen.facts, Cert.Pre_uniform_buckets.Gen.facts,
  Bucket.frame_kernel, Bucket.frame_ideal, fun m g _ => Bucket.frame_ideal m g trivial, Bucket.frame_reference,
  fun m g _ => Bucket.frame_reference m g trivial, trivial, Bucket.same_buckets⟩

end Cert.Proof

end
